-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v6_0)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v6_0) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80_0) = v0 c
          ∧ r.2.mem ((c.tc : Thread Cert.ReferenceIdeal.nD Cert.ReferenceIdeal.τ).loc Cert.ReferenceIdeal.main_v80_1) = v1 c
          ∧ r.2.mem ((c.tc : Thread Cert.ReferenceIdeal.nD Cert.ReferenceIdeal.τ).loc Cert.ReferenceIdeal.main_v100_0) = v2 c
          ∧ r.2.mem ((c.tc : Thread Cert.ReferenceIdeal.nD Cert.ReferenceIdeal.τ).loc Cert.ReferenceIdeal.main_v100_1) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x12288 : Shape := ⟨3, ![1, 2048, 12288]⟩
abbrev S32 : Shape := ⟨1, ![32]⟩
abbrev S32x128 : Shape := ⟨2, ![32, 128]⟩
abbrev S16 : Shape := ⟨1, ![16]⟩
abbrev S16x128 : Shape := ⟨2, ![16, 128]⟩
abbrev S2048x12288 : Shape := ⟨2, ![2048, 12288]⟩
abbrev S2048x6144 : Shape := ⟨2, ![2048, 6144]⟩
abbrev S2048x192 : Shape := ⟨2, ![2048, 192]⟩
abbrev S128x12288 : Shape := ⟨2, ![128, 12288]⟩
abbrev S128x6144 : Shape := ⟨2, ![128, 6144]⟩
abbrev S128x192 : Shape := ⟨2, ![128, 192]⟩
abbrev S192x128 : Shape := ⟨2, ![192, 128]⟩
abbrev S8x128 : Shape := ⟨2, ![8, 128]⟩
abbrev S128x128 : Shape := ⟨2, ![128, 128]⟩
abbrev S512x128 : Shape := ⟨2, ![512, 128]⟩
abbrev S64x128 : Shape := ⟨2, ![64, 128]⟩
abbrev S128 : Shape := ⟨1, ![128]⟩
abbrev S1x128 : Shape := ⟨2, ![1, 128]⟩
abbrev S32x128x1 : Shape := ⟨3, ![32, 128, 1]⟩
abbrev S16x128x1 : Shape := ⟨3, ![16, 128, 1]⟩
abbrev S256x128 : Shape := ⟨2, ![256, 128]⟩
abbrev S1536x256 : Shape := ⟨2, ![1536, 256]⟩
abbrev S1536x1 : Shape := ⟨2, ![1536, 1]⟩
abbrev S1x1 : Shape := ⟨2, ![1, 1]⟩
abbrev S256 : Shape := ⟨1, ![256]⟩
abbrev S1x256 : Shape := ⟨2, ![1, 256]⟩
abbrev S1 : Shape := ⟨1, ![1]⟩
abbrev S1536 : Shape := ⟨1, ![1536]⟩
abbrev S1x2048x6144 : Shape := ⟨3, ![1, 2048, 6144]⟩
abbrev S1x2048x192 : Shape := ⟨3, ![1, 2048, 192]⟩
abbrev S_ : Shape := ⟨0, ![]⟩

abbrev nBuf : Space → Nat
  | .hbm => 18
  | .vmem => 14
  | .smem => 0
  | _ => 0

abbrev bufTy : (tb : Table) → Fin (tcTables nBuf tb) → BufTy
  | .hbm, ⟨0, _⟩ => ⟨S1x2048x12288, .bf16⟩
  | .hbm, ⟨1, _⟩ => ⟨S32, .i8⟩
  | .hbm, ⟨2, _⟩ => ⟨S32x128, .i8⟩
  | .hbm, ⟨3, _⟩ => ⟨S32, .i8⟩
  | .hbm, ⟨4, _⟩ => ⟨S32x128, .i8⟩
  | .hbm, ⟨5, _⟩ => ⟨S16, .f32⟩
  | .hbm, ⟨6, _⟩ => ⟨S16x128, .f32⟩
  | .hbm, ⟨7, _⟩ => ⟨S2048x12288, .bf16⟩
  | .hbm, ⟨8, _⟩ => ⟨S2048x6144, .i8⟩
  | .hbm, ⟨9, _⟩ => ⟨S2048x192, .f32⟩
  | .hbm, ⟨10, _⟩ => ⟨S1536x256, .f32⟩
  | .hbm, ⟨11, _⟩ => ⟨S1536x256, .i8⟩
  | .hbm, ⟨12, _⟩ => ⟨S1536x1, .f32⟩
  | .hbm, ⟨13, _⟩ => ⟨S1x1, .f32⟩
  | .hbm, ⟨14, _⟩ => ⟨S1x2048x6144, .i8⟩
  | .hbm, ⟨15, _⟩ => ⟨S1x2048x192, .f32⟩
  | .hbm, ⟨16, _⟩ => ⟨S1536, .f32⟩
  | .hbm, ⟨17, _⟩ => ⟨S_, .f32⟩
  | .local _ .vmem, ⟨0, _⟩ => ⟨S128x12288, .bf16⟩
  | .local _ .vmem, ⟨1, _⟩ => ⟨S128x12288, .bf16⟩
  | .local _ .vmem, ⟨2, _⟩ => ⟨S32x128, .i8⟩
  | .local _ .vmem, ⟨3, _⟩ => ⟨S32x128, .i8⟩
  | .local _ .vmem, ⟨4, _⟩ => ⟨S16x128, .f32⟩
  | .local _ .vmem, ⟨5, _⟩ => ⟨S128x6144, .i8⟩
  | .local _ .vmem, ⟨6, _⟩ => ⟨S128x6144, .i8⟩
  | .local _ .vmem, ⟨7, _⟩ => ⟨S128x192, .f32⟩
  | .local _ .vmem, ⟨8, _⟩ => ⟨S128x192, .f32⟩
  | .local _ .vmem, ⟨9, _⟩ => ⟨S192x128, .f32⟩
  | .local _ .vmem, ⟨10, _⟩ => ⟨S1536x256, .f32⟩
  | .local _ .vmem, ⟨11, _⟩ => ⟨S1536x256, .i8⟩
  | .local _ .vmem, ⟨12, _⟩ => ⟨S1536x1, .f32⟩
  | .local _ .vmem, ⟨13, _⟩ => ⟨S1x1, .f32⟩
  | _, _ => ⟨S1x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c24_i32 : BitVec 32 := 24#32
  let v6 : BitVec 32 := Scalar.addi c0_i32 c24_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v10 : BitVec 32 := Scalar.muli arg8 c512_i32
  v10
def k0_off1 (k0_t1 : Fin k0_t1_loop.trips) (c0_i32_8 : BitVec 32) : Fin 2 → Nat :=
  let c0_9 : Index := 0#32
  let c0_i32 : BitVec 32 := 0#32
  let c1_i32 : BitVec 32 := 1#32
  let arg8 : BitVec 32 := Scf.iv c0_i32 c1_i32 k0_t1
  let c512_i32 : BitVec 32 := 512#32
  let v10 : BitVec 32 := Scalar.muli arg8 c512_i32
  let v11 : BitVec 32 := v10
  let v12 : BitVec 32 := Scalar.addi v11 c0_i32_8
  let v13 : Index := Scalar.indexCast v12
  ![0, v13.toNat]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32 : BitVec 32 := 8#32
  let v74 : BitVec 32 := Scalar.muli arg8 c8_i32
  v74
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32 : BitVec 32 := 8#32
  let v74 : BitVec 32 := Scalar.muli arg8 c8_i32
  let v75 : BitVec 32 := v74
  let v76 : Index := Scalar.indexCast v75
  let c0_20 : Index := 0#32
  ![v76.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32_235 : BitVec 32 := 256#32
  let v1377 : BitVec 32 := Scalar.muli arg8 c256_i32_235
  v1377
def k0_off3 (k0_t1 : Fin k0_t1_loop.trips) (c0_i32_236 : BitVec 32) : Fin 2 → Nat :=
  let c0_237 : Index := 0#32
  let c0_i32 : BitVec 32 := 0#32
  let c1_i32 : BitVec 32 := 1#32
  let arg8 : BitVec 32 := Scf.iv c0_i32 c1_i32 k0_t1
  let c256_i32_235 : BitVec 32 := 256#32
  let v1377 : BitVec 32 := Scalar.muli arg8 c256_i32_235
  let v1378 : BitVec 32 := v1377
  let v1379 : BitVec 32 := Scalar.addi v1378 c0_i32_236
  let v1381 : Index := Scalar.indexCast v1379
  ![0, v1381.toNat]
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32_238 : BitVec 32 := 256#32
  let v1385 : BitVec 32 := Scalar.muli arg8 c256_i32_238
  v1385
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x6144 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

abbrev stage1_0 : Fin 1 → Memref sig .tc .vmem S1536x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1536x256 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1536x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S1x2048x12288 : Shape := ⟨3, ![1, 2048, 12288]⟩
abbrev S1x2048x192x64 : Shape := ⟨4, ![1, 2048, 192, 64]⟩
abbrev S_ : Shape := ⟨0, ![]⟩
abbrev S1x2048x192 : Shape := ⟨3, ![1, 2048, 192]⟩
abbrev S1x2048x192x1 : Shape := ⟨4, ![1, 2048, 192, 1]⟩
abbrev S1x2048x6144 : Shape := ⟨3, ![1, 2048, 6144]⟩
abbrev S1536x256 : Shape := ⟨2, ![1536, 256]⟩
abbrev S1536 : Shape := ⟨1, ![1536]⟩
abbrev S1536x1 : Shape := ⟨2, ![1536, 1]⟩

abbrev nBuf : Space → Nat
  | .hbm => 140
  | .vmem => 0
  | .smem => 0
  | _ => 0

abbrev hbmTy0_0 (i : Nat) : BufTy := match i % 128 with
  | 0 => ⟨S1x2048x12288, .bf16⟩
  | 1 => ⟨S1x2048x12288, .f32⟩
  | 2 => ⟨S1x2048x192x64, .f32⟩
  | 3 => ⟨S1x2048x192x64, .f32⟩
  | 4 => ⟨S_, .f32⟩
  | 5 => ⟨S1x2048x192, .f32⟩
  | 6 => ⟨S_, .f32⟩
  | 7 => ⟨S1x2048x192, .f32⟩
  | 8 => ⟨S1x2048x192, .i1⟩
  | 9 => ⟨S_, .f32⟩
  | 10 => ⟨S1x2048x192, .f32⟩
  | 11 => ⟨S1x2048x192, .f32⟩
  | 12 => ⟨S_, .f32⟩
  | 13 => ⟨S1x2048x192, .f32⟩
  | 14 => ⟨S1x2048x192, .f32⟩
  | 15 => ⟨S1x2048x192x1, .f32⟩
  | 16 => ⟨S1x2048x192x64, .f32⟩
  | 17 => ⟨S1x2048x192x64, .f32⟩
  | 18 => ⟨S_, .i32⟩
  | 19 => ⟨S1x2048x192x64, .i32⟩
  | 20 => ⟨S_, .f32⟩
  | 21 => ⟨S1x2048x192x64, .f32⟩
  | 22 => ⟨S1x2048x192x64, .i1⟩
  | 23 => ⟨S1x2048x192x64, .i32⟩
  | 24 => ⟨S1x2048x192x64, .i32⟩
  | 25 => ⟨S_, .f32⟩
  | 26 => ⟨S1x2048x192x64, .f32⟩
  | 27 => ⟨S1x2048x192x64, .i1⟩
  | 28 => ⟨S1x2048x192x64, .i32⟩
  | 29 => ⟨S1x2048x192x64, .i32⟩
  | 30 => ⟨S_, .f32⟩
  | 31 => ⟨S1x2048x192x64, .f32⟩
  | 32 => ⟨S1x2048x192x64, .i1⟩
  | 33 => ⟨S1x2048x192x64, .i32⟩
  | 34 => ⟨S1x2048x192x64, .i32⟩
  | 35 => ⟨S_, .f32⟩
  | 36 => ⟨S1x2048x192x64, .f32⟩
  | 37 => ⟨S1x2048x192x64, .i1⟩
  | 38 => ⟨S1x2048x192x64, .i32⟩
  | 39 => ⟨S1x2048x192x64, .i32⟩
  | 40 => ⟨S_, .f32⟩
  | 41 => ⟨S1x2048x192x64, .f32⟩
  | 42 => ⟨S1x2048x192x64, .i1⟩
  | 43 => ⟨S1x2048x192x64, .i32⟩
  | 44 => ⟨S1x2048x192x64, .i32⟩
  | 45 => ⟨S_, .f32⟩
  | 46 => ⟨S1x2048x192x64, .f32⟩
  | 47 => ⟨S1x2048x192x64, .i1⟩
  | 48 => ⟨S1x2048x192x64, .i32⟩
  | 49 => ⟨S1x2048x192x64, .i32⟩
  | 50 => ⟨S_, .f32⟩
  | 51 => ⟨S1x2048x192x64, .f32⟩
  | 52 => ⟨S1x2048x192x64, .i1⟩
  | 53 => ⟨S1x2048x192x64, .i32⟩
  | 54 => ⟨S1x2048x192x64, .i32⟩
  | 55 => ⟨S_, .f32⟩
  | 56 => ⟨S1x2048x192x64, .f32⟩
  | 57 => ⟨S1x2048x192x64, .i1⟩
  | 58 => ⟨S1x2048x192x64, .i32⟩
  | 59 => ⟨S1x2048x192x64, .i32⟩
  | 60 => ⟨S_, .f32⟩
  | 61 => ⟨S1x2048x192x64, .f32⟩
  | 62 => ⟨S1x2048x192x64, .i1⟩
  | 63 => ⟨S1x2048x192x64, .i32⟩
  | 64 => ⟨S1x2048x192x64, .i32⟩
  | 65 => ⟨S_, .f32⟩
  | 66 => ⟨S1x2048x192x64, .f32⟩
  | 67 => ⟨S1x2048x192x64, .i1⟩
  | 68 => ⟨S1x2048x192x64, .i32⟩
  | 69 => ⟨S1x2048x192x64, .i32⟩
  | 70 => ⟨S_, .f32⟩
  | 71 => ⟨S1x2048x192x64, .f32⟩
  | 72 => ⟨S1x2048x192x64, .i1⟩
  | 73 => ⟨S1x2048x192x64, .i32⟩
  | 74 => ⟨S1x2048x192x64, .i32⟩
  | 75 => ⟨S_, .f32⟩
  | 76 => ⟨S1x2048x192x64, .f32⟩
  | 77 => ⟨S1x2048x192x64, .i1⟩
  | 78 => ⟨S1x2048x192x64, .i32⟩
  | 79 => ⟨S1x2048x192x64, .i32⟩
  | 80 => ⟨S_, .f32⟩
  | 81 => ⟨S1x2048x192x64, .f32⟩
  | 82 => ⟨S1x2048x192x64, .i1⟩
  | 83 => ⟨S1x2048x192x64, .i32⟩
  | 84 => ⟨S1x2048x192x64, .i32⟩
  | 85 => ⟨S_, .f32⟩
  | 86 => ⟨S1x2048x192x64, .f32⟩
  | 87 => ⟨S1x2048x192x64, .i1⟩
  | 88 => ⟨S1x2048x192x64, .i32⟩
  | 89 => ⟨S1x2048x192x64, .i32⟩
  | 90 => ⟨S_, .f32⟩
  | 91 => ⟨S1x2048x192x64, .f32⟩
  | 92 => ⟨S1x2048x192x64, .i1⟩
  | 93 => ⟨S1x2048x192x64, .i32⟩
  | 94 => ⟨S1x2048x192x64, .i32⟩
  | 95 => ⟨S1x2048x12288, .i32⟩
  | 96 => ⟨S1x2048x6144, .i32⟩
  | 97 => ⟨S_, .i32⟩
  | 98 => ⟨S1x2048x6144, .i32⟩
  | 99 => ⟨S1x2048x6144, .i32⟩
  | 100 => ⟨S1x2048x6144, .i32⟩
  | 101 => ⟨S1x2048x6144, .i32⟩
  | 102 => ⟨S1x2048x6144, .i8⟩
  | 103 => ⟨S1x2048x6144, .i8⟩
  | 104 => ⟨S1x2048x192, .f32⟩
  | 105 => ⟨S_, .f32⟩
  | 106 => ⟨S_, .f32⟩
  | 107 => ⟨S_, .f32⟩
  | 108 => ⟨S_, .f32⟩
  | 109 => ⟨S1x2048x192, .f32⟩
  | 110 => ⟨S1x2048x192, .f32⟩
  | 111 => ⟨S1536x256, .f32⟩
  | 112 => ⟨S1536x256, .f32⟩
  | 113 => ⟨S_, .f32⟩
  | 114 => ⟨S1536, .f32⟩
  | 115 => ⟨S_, .f32⟩
  | 116 => ⟨S1536, .f32⟩
  | 117 => ⟨S1536, .i1⟩
  | 118 => ⟨S_, .f32⟩
  | 119 => ⟨S1536, .f32⟩
  | 120 => ⟨S1536, .f32⟩
  | 121 => ⟨S_, .f32⟩
  | 122 => ⟨S1536, .f32⟩
  | 123 => ⟨S1536, .f32⟩
  | 124 => ⟨S1536x1, .f32⟩
  | 125 => ⟨S1536x256, .f32⟩
  | 126 => ⟨S1536x256, .f32⟩
  | 127 => ⟨S1536x256, .f32⟩
  | _ => ⟨S1x2048x12288, .bf16⟩

abbrev hbmTy0_1 (i : Nat) : BufTy := match i % 128 with
  | 0 => ⟨S_, .f32⟩
  | 1 => ⟨S_, .f32⟩
  | 2 => ⟨S_, .f32⟩
  | 3 => ⟨S1536x256, .f32⟩
  | 4 => ⟨S1536x256, .f32⟩
  | 5 => ⟨S_, .f32⟩
  | 6 => ⟨S1536x256, .f32⟩
  | 7 => ⟨S1536x256, .f32⟩
  | 8 => ⟨S1536x256, .i32⟩
  | 9 => ⟨S1536x256, .i8⟩
  | 10 => ⟨S1536x256, .i8⟩
  | 11 => ⟨S1536, .f32⟩
  | _ => ⟨S1x2048x12288, .bf16⟩

abbrev hbmTy (i : Nat) : BufTy := match i / 128 with
  | 0 => hbmTy0_0 i
  | 1 => hbmTy0_1 i
  | _ => ⟨S1x2048x12288, .bf16⟩

abbrev bufTy : (tb : Table) → Fin (tcTables nBuf tb) → BufTy
  | .hbm, ⟨i, _⟩ => hbmTy i
  | _, _ => ⟨S1x2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_call0_v0 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_13 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_14 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_15 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_16 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_18 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80_0 : Ref sig .tc := ⟨.hbm, 103, rfl⟩
abbrev main_v80_1 : Ref sig .tc := ⟨.hbm, 104, rfl⟩
abbrev main_cst_19 : Ref sig .tc := ⟨.hbm, 105, rfl⟩
abbrev main_v81 : Ref sig .tc := ⟨.hbm, 106, rfl⟩
abbrev main_cst_20 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_21 : Ref sig .tc := ⟨.hbm, 113, rfl⟩
abbrev main_v87 : Ref sig .tc := ⟨.hbm, 114, rfl⟩
abbrev main_cst_22 : Ref sig .tc := ⟨.hbm, 115, rfl⟩
abbrev main_v88 : Ref sig .tc := ⟨.hbm, 116, rfl⟩
abbrev main_v89 : Ref sig .tc := ⟨.hbm, 117, rfl⟩
abbrev main_cst_23 : Ref sig .tc := ⟨.hbm, 118, rfl⟩
abbrev main_v90 : Ref sig .tc := ⟨.hbm, 119, rfl⟩
abbrev main_v91 : Ref sig .tc := ⟨.hbm, 120, rfl⟩
abbrev main_cst_24 : Ref sig .tc := ⟨.hbm, 121, rfl⟩
abbrev main_call1_v0 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_25 : Ref sig .tc := ⟨.hbm, 128, rfl⟩
abbrev main_cst_26 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100_0 : Ref sig .tc := ⟨.hbm, 138, rfl⟩
abbrev main_v100_1 : Ref sig .tc := ⟨.hbm, 139, rfl⟩

abbrev nD : Nat := 1
abbrev τ : Topo := Topo.v7x

variable {F : FTy → Type} [FloatOps F]
-- ==== Proof.Ends.lean ====
/- The kernel's run, with what each result holds at its end. -/
module

public import proofs.«01_k».proof.Proof.Gen.KernelIdeal.Frame

@[expose] public section

noncomputable section

namespace Cert.KernelIdeal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable (m : (ℓ : Loc nD τ sig) → Buf (Elt F) ℓ) (ρ : Dev nD → PrngReg)

set_option maxHeartbeats 1000000 in
-- the launch's implicit arguments are found by unifying its conclusion with this one, which takes unfolding plain
-- definitions in a metavariable's type
set_option backward.isDefEq.respectTransparency.types false in
/-- Every run ends with each result holding the contents `W5` traces for it, the argument unchanged. -/
theorem run_values : θ_run defs (onTc (τ := τ) (main (F := F))) ⟨m, fun _ => 0, ρ⟩ (fun r => ∀ c : Dev nD,
      r.2.mem ((c : Thread nD τ).loc main_v7) = W5 m ρ c (Proc.devRef .tc main_v7)
      ∧ r.2.mem ((c : Thread nD τ).loc main_v8) = W5 m ρ c (Proc.devRef .tc main_v8)
      ∧ r.2.mem ((c : Thread nD τ).loc main_v6_0) = W5 m ρ c (Proc.devRef .tc main_v6_0)
      ∧ r.2.mem ((c : Thread nD τ).loc main_v9) = W5 m ρ c (Proc.devRef .tc main_v9)
      ∧ r.2.mem ((c : Thread nD τ).loc main_v10) = W5 m ρ c (Proc.devRef .tc main_v10)
      ∧ r.2.mem ((c : Thread nD τ).loc main_arg0) = m ((c : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨h c _ (mem_uc main_v7 (by decide)), h c _ (mem_uc main_v8 (by decide)), h c _ (mem_uc main_v6_0 (by decide)),
      h c _ (mem_uc main_v9 (by decide)), h c _ (mem_uc main_v10 (by decide)), (h c _ (mem_uc main_arg0 (by decide))).trans (W5_main_arg0 m ρ c)⟩)

end Cert.KernelIdeal.Ends

end
-- ==== Proof.Chunk.lean ====
/- What one trip of the encoder's loop over column chunks writes, restated once per KIND of piece.

   The printed body of a trip is unrolled: eight blocks of 64 values, each of four groups of 16 rows. Here a group is one
   function (`groupWords`), two groups make sixteen packed half-words (`packedPair`), sixteen of those the chunk's 256 rows
   (`packedRows`), and the eight block maxima one array (`blockMaxima`). The theorems `trip_stores_codes` and
   `trip_stores_maxima` state that the trip's stores are these functions of what the trip loads. -/
module

public import proofs.«01_k».proof.Proof.Gen.KernelIdeal.Frame

@[expose] public section

set_option maxRecDepth 16384

noncomputable section

namespace Cert.KernelIdeal.Chunk

open Idealize.ShloMosaic Idealize.SL.Sem Cert.KernelIdeal Cert.KernelIdeal.Gen

variable {F : FTy → Type} [FloatOps F]

/-- The 16 rows from row `16 n` lie in the chunk. -/
theorem slices16 : ∀ n : Fin 32, S512x128.Slices ![16 * n.val, 0] S16x128 := by decide

/-- The 64 rows of block `b` lie in the chunk. -/
theorem slices64 : ∀ b : Fin 8, S512x128.Slices ![64 * b.val, 0] S64x128 := by decide

/-- Row `b` lies in the eight. -/
theorem slices1 : ∀ b : Fin 8, S8x128.Slices ![b.val, 0] S1x128 := by decide

/-- Rows `16 n … 16 n + 15` of the chunk. -/
def rows16 (x : FVec F S512x128 .bf16) (n : Fin 32) : FVec F S16x128 .bf16 :=
  extractStridedSlice S16x128 ![16 * n.val, 0] x (slices16 n)

/-- The largest magnitude of block `b`, per lane. -/
def blockMax (x : FVec F S512x128 .bf16) (b : Fin 8) : FVec F S1x128 .f32 :=
  shapeCast S1x128 (multiReduction .maximumf [0] S128
    (extf .f32 (absf (extractStridedSlice S64x128 ![64 * b.val, 0] x (slices64 b))) bitsLt_bf16_f32)
    0xFF800000#32 reduces_S64x128_S128 (.inl rfl) rfl) shapeCasts_S128_S1x128

/-- The eight blocks' largest magnitudes. -/
def blockMaxima (x : FVec F S512x128 .bf16) : FVec F S8x128 .f32 :=
  concatenate S8x128 0 (List.ofFn fun b : Fin 8 => ⟨S1x128, blockMax x b⟩)
    concatenates_S1x128_S1x128_S1x128_S1x128_S1x128_S1x128_S1x128_S1x128_S8x128_d0

/-- Fifteen units over each block's largest magnitude (over 1 where that is 0). -/
def inverses (a : FVec F S8x128 .f32) : FVec F S8x128 .f32 :=
  divf (broadcast S8x128 (Scalar.ofBits .f32 0x2E700000#32))
    (select (cmpf .oeq a (broadcast S8x128 (Scalar.ofBits .f32 0x00000000#32)))
      (broadcast S8x128 (Scalar.ofBits .f32 0x3F800000#32)) a)

/-- Row `b` of an array of eight rows, repeated sixteen times. -/
def repeated (a : FVec F S8x128 .f32) (b : Fin 8) : FVec F S16x128 .f32 :=
  broadcastTo S16x128 (shapeCast S1x128 (extractStridedSlice S1x128 ![b.val, 0] a (slices1 b)) shapeCasts_S1x128_S1x128)
    broadcasts_S1x128_S16x128

/-- The thresholds of block `b`: each threshold times the block's largest magnitude, rounded down. -/
def scaledThresholds (thr : Vec F S16x128 .f32) (a : FVec F S8x128 .f32) (b : Fin 8) : FVec F S16x128 .bf16 :=
  let y : FVec F S16x128 .f32 := mulf thr (repeated a b)
  let r : FVec F S16x128 .f32 := extf .f32 (truncf .bf16 y bitsLt_bf16_f32) bitsLt_bf16_f32
  truncf .bf16 (select (cmpf .ogt r y) (subf r (mulf (absf r) (broadcast S16x128 (Scalar.ofBits .f32 0x3BA00000#32)))) r)
    bitsLt_bf16_f32

/-- The cell of every value of a group: the scaled value plus 192 units, rounded to units, offset by 0x2F80, as
    half-words masked to the two table indices a half-word holds. -/
def cellIndex (xi : FVec F S16x128 .bf16) : IVec S16x128 16 :=
  andi (trunci 16 (addi (fptosi 32 (roundeven (mulf (extf .f32
    (addf xi (broadcast S16x128 (Scalar.ofBits .bf16 0x3040#16))) bitsLt_bf16_f32)
    (broadcast S16x128 (Scalar.ofBits .f32 0x52800000#32))))) (broadcast S16x128 12160#32)) natLt_16_32)
    (broadcast S16x128 7967#16)

/-- The table read at both bytes of every index half-word. -/
def tableRead (cell : Vec F S32x128 .i8) (v : IVec S16x128 16) : IVec S16x128 16 :=
  bitcast S16x128 16 (bitcast S8x128 32 (dynamicGather 0 cell (shapeCast S32x128 (shapeCast S32x128x1
    (extsi 32 (bitcast S32x128 8 (bitcast S8x128 32 v bitcasts_S16x128_w16_S8x128_w32) bitcasts_S8x128_w32_S32x128_w8)
      natLt_8_32) shapeCasts_S32x128_S32x128x1) shapeCasts_S32x128x1_S32x128))
    bitcasts_S32x128_w8_S8x128_w32) bitcasts_S8x128_w32_S16x128_w16

/-- The threshold that the low byte of every half-word names. -/
def thresholdRead (tab : FVec F S16x128 .bf16) (j : IVec S16x128 16) : FVec F S16x128 .bf16 :=
  dynamicGather 0 tab (shapeCast S16x128 (shapeCast S16x128x1
    (extsi 32 (andi j (broadcast S16x128 255#16)) natLt_16_32) shapeCasts_S16x128_S16x128x1) shapeCasts_S16x128x1_S16x128)

/-- Each value's half-word: the table's entry, plus the selector of whether the value exceeds its threshold. -/
def halfWords (xg t : FVec F S16x128 .bf16) (j : IVec S16x128 16) : IVec S16x128 16 :=
  addi j (select (cmpf .ogt xg t) k0_pay1 k0_pay2)

/-- A group's eight words: two rows' half-words in one word, multiplied so that both codes meet in bits 16 to 23. -/
def groupWords (cell : Vec F S32x128 .i8) (tab ib xg : FVec F S16x128 .bf16) : IVec S8x128 32 :=
  let j : IVec S16x128 16 := tableRead cell (cellIndex (mulf xg ib))
  muli (bitcast S8x128 32 (halfWords xg (thresholdRead tab j) j) bitcasts_S16x128_w16_S8x128_w32)
    (broadcast S8x128 1048577#32)

/-- The upper halves of two groups' words. -/
def packedPair (r s : IVec S8x128 32) : IVec S16x128 16 :=
  trunci 16 (shrsi (concatenate S16x128 0 [⟨S8x128, r⟩, ⟨S8x128, s⟩] concatenates_S8x128_S8x128_S16x128_d0)
    (broadcast S16x128 16#32)) natLt_16_32

/-- Group `g` of the chunk (of 32): its block is `g / 4`. -/
def group (cell : Vec F S32x128 .i8) (thr : Vec F S16x128 .f32) (x : FVec F S512x128 .bf16) (a : FVec F S8x128 .f32)
    (b : Fin 8) (n : Fin 32) : IVec S8x128 32 :=
  groupWords cell (scaledThresholds thr a b) (truncf .bf16 (repeated (inverses a) b) bitsLt_bf16_f32) (rows16 x n)

/-- The chunk's packed codes, transposed: row `i` of lane `l` holds the codes of values `2 i` and `2 i + 1` of row `l`. -/
def packedRows (cell : Vec F S32x128 .i8) (thr : Vec F S16x128 .f32) (x : FVec F S512x128 .bf16) (a : FVec F S8x128 .f32) :
    IVec S256x128 16 :=
  concatenate S256x128 0 (List.ofFn fun n : Fin 16 => ⟨S16x128, packedPair
      (group cell thr x a ⟨n.val / 2, by omega⟩ ⟨2 * n.val, by omega⟩)
      (group cell thr x a ⟨n.val / 2, by omega⟩ ⟨2 * n.val + 1, by omega⟩)⟩)
    concatenates_S16x128_S16x128_S16x128_S16x128_S16x128_S16x128_S16x128_S16x128_S16x128_S16x128_S16x128_S16x128_S16x128_S16x128_S16x128_S16x128_S256x128_d0

/-- 128 of the packed rows, from row and lane `off`, transposed back, as bytes. -/
def codeTile (off : Fin 2 → ℕ) (hs : S256x128.Slices off S128x128) (u : IVec S256x128 16) : IVec S128x128 8 :=
  trunci 8 (transpose S128x128 [1, 0] (extractStridedSlice S128x128 off u hs) transposes_S128x128_p1_0_S128x128) natLt_8_16

section
variable (𝒱 : Variants) (c : Dev nD) (bd : Option 𝒱.V) (i : grid0.Coords) (arg1 : Memref sig .tc .vmem S128x12288 .bf16) (harg1 : arg1.IsWhole) (arg2 : Memref sig .tc .vmem S32x128 .i8) (harg2 : arg2.IsWhole) (arg3 : Memref sig .tc .vmem S32x128 .i8) (harg3 : arg3.IsWhole) (arg4 : Memref sig .tc .vmem S16x128 .f32) (harg4 : arg4.IsWhole) (arg5 : Memref sig .tc .vmem S128x6144 .i8) (harg5 : arg5.IsWhole) (arg6 : Memref sig .tc .vmem S128x192 .f32) (harg6 : arg6.IsWhole) (arg7 : Memref sig .tc .vmem S192x128 .f32) (harg7 : arg7.IsWhole) (v0 : Vec F S32x128 .i8) (v1 : Vec F S16x128 .f32) (X : BufTy.Contents (Elt F) arg1.view.ty) (k : Fin k0_t1_loop.trips)

/-- The 128 columns trip `k` loads at step `t` of its four. -/
def loaded (t : Fin 4) : Vec F S128x128 .bf16 :=
  arg1.view.readAt (Elt F) (Rect.unit (s := S128x12288) (k0_off1 k (BitVec.ofNat 32 (128 * t.val))) S128x128.size (k0_off1_inb k t)).toLoadRect X

/-- The chunk of trip `k`: 512 columns as rows. -/
def chunkOf : FVec F S512x128 .bf16 := k0_pay5 (loaded arg1 X k 0) (loaded arg1 X k 1) (loaded arg1 X k 2) (loaded arg1 X k 3)

/-- What trip `k` stores to the scratch: the chunk's block maxima, at rows `8 k`. -/
theorem trip_stores_maxima : (tripL_k0_t1 (F := F) 𝒱 c bd i arg1 harg1 arg2 harg2 arg3 harg3 arg4 harg4 arg5 harg5 arg6 harg6 arg7 harg7 v0 v1 X k).2
    = [⟨Rect.unit (s := S192x128) (k0_off2 k) S8x128.size (k0_off2_inb k), shapeCast S8x128 (blockMaxima (chunkOf arg1 X k)) shapeCasts_S8x128_S8x128⟩] := by
  unfold tripL_k0_t1 trip_k0_t1
  rfl

/-- What trip `k` stores to the code block: the chunk's packed codes, transposed back, 128 columns at a time. -/
theorem trip_stores_codes : (tripL_k0_t1 (F := F) 𝒱 c bd i arg1 harg1 arg2 harg2 arg3 harg3 arg4 harg4 arg5 harg5 arg6 harg6 arg7 harg7 v0 v1 X k).1
    = [⟨Rect.unit (s := S128x6144) (k0_off3 k 128#32) S128x128.size (k0_off3_inb k 1), codeTile ![128, 0] slices_S256x128_o128_0_S128x128 (packedRows v0 v1 (chunkOf arg1 X k) (blockMaxima (chunkOf arg1 X k)))⟩,
       ⟨Rect.unit (s := S128x6144) (k0_off3 k 0#32) S128x128.size (k0_off3_inb k 0), codeTile ![0, 0] slices_S256x128_o0_0_S128x128 (packedRows v0 v1 (chunkOf arg1 X k) (blockMaxima (chunkOf arg1 X k)))⟩] := by
  unfold tripL_k0_t1 trip_k0_t1
  rfl

end

end Cert.KernelIdeal.Chunk

end
-- ==== Proof.Code.lean ====
/- The arithmetic of one code: the cell of a scaled value, the table's base code, the one threshold left to compare with.

   A value `q` in `[-1, 1]` is coded by the number of thresholds below it. The encoder rounds `15 q` to an integer `n`,
   looks up how many thresholds lie certainly below every value that rounds to `n`, and compares `q` with the next
   threshold alone. `code_eq_count` states that this gives the count. -/
module

public import proofs.«01_k».proof.Proof.Gen.KernelIdeal
public import Idealize.ShloMosaic.Lib.IdealHost

@[expose] public section

set_option maxRecDepth 16384

noncomputable section

namespace Cert.KernelIdeal.Code

open Idealize.ShloMosaic Cert.KernelIdeal

/-- The thresholds as integer multiples of `2 ^ -28`, the sixteenth (2) one that no value exceeds. -/
def thrZ (i : Fin 16) : ℤ :=
  ![-227659136, -163915520, -123479040, -91182000, -62976944, -37020400, -12220529, 10681087,
    32280772, 54632320, 78386848, 104505288, 134664256, 172546800, 231251360, 536870912] i

/-- The thresholds as reals. -/
def thr (i : Fin 16) : ℝ := (thrZ i : ℝ) / 2 ^ 28

/-- The kernel's constant words are these thresholds. -/
theorem ofBits_thr (i : Fin 16) : Ideal.ofBits .f32 (lit2 i) = ((thr i : ℝ) : EReal) := by
  fin_cases i <;> simp [lit2, thr, thrZ, Ideal.ofBits, Ideal.ieee, -EReal.coe_mul, -EReal.coe_neg] <;> norm_num

/-- How many thresholds lie below every value of cell `n`. -/
def base (n : ℤ) : ℕ := (lit0 (Fin.ofNat 32 (n % 32).toNat)).toNat

/-- The cells' base codes against the thresholds: those under the base lie below the cell, those over it do not. -/
theorem base_spec : ∀ k : Fin 31, base ((k.val : ℤ) - 15) < 15 ∧ ∀ i : Fin 15,
    (i.val < base ((k.val : ℤ) - 15) → 30 * thrZ i.castSucc < (2 * ((k.val : ℤ) - 15) - 1) * 2 ^ 28)
    ∧ (base ((k.val : ℤ) - 15) < i.val → (2 * ((k.val : ℤ) - 15) + 1) * 2 ^ 28 ≤ 30 * thrZ i.castSucc) := by
  decide +kernel

/-- Rounding to nearest moves a real by at most a half. -/
theorem roundHalfEven_near (r : ℝ) : (Ideal.roundHalfEven r : ℝ) - 1 / 2 ≤ r ∧ r ≤ (Ideal.roundHalfEven r : ℝ) + 1 / 2 := by
  have h1 := Int.floor_le r
  have h2 := Int.lt_floor_add_one r
  unfold Ideal.roundHalfEven
  dsimp only
  split_ifs <;> push_cast <;> constructor <;> linarith

/-- Fifteen times a value of `[-1, 1]` rounds into `[-15, 15]`. -/
theorem round_range {q : ℝ} (h1 : -1 ≤ q) (h2 : q ≤ 1) :
    -15 ≤ Ideal.roundHalfEven (15 * q) ∧ Ideal.roundHalfEven (15 * q) ≤ 15 := by
  obtain ⟨ha, hb⟩ := roundHalfEven_near (15 * q)
  constructor
  · by_contra hc
    have : Ideal.roundHalfEven (15 * q) ≤ -16 := by omega
    have : (Ideal.roundHalfEven (15 * q) : ℝ) ≤ -16 := by exact_mod_cast this
    linarith
  · by_contra hc
    have : (16 : ℤ) ≤ Ideal.roundHalfEven (15 * q) := by omega
    have : (16 : ℝ) ≤ (Ideal.roundHalfEven (15 * q) : ℝ) := by exact_mod_cast this
    linarith

/-- The code: the number of thresholds below `q`. -/
def count (q : ℝ) : ℕ := (List.finRange 15).countP fun i => decide (thr i.castSucc < q)

/-- A test that holds under `b` and fails over it holds `b` times, and once more if it holds at `b`. -/
theorem countP_of_split : ∀ (b : Fin 15) (t : Bool),
    ((List.finRange 15).countP fun i : Fin 15 => if i.val < b.val then true else if b.val < i.val then false else t)
      = b.val + (if t then 1 else 0) := by decide +kernel

/-- The two-step code is the count: the base of the value's cell, and one more if it exceeds the base's threshold. -/
theorem code_eq_count {q : ℝ} (h1 : -1 ≤ q) (h2 : q ≤ 1) {n : ℤ} (hn : n = Ideal.roundHalfEven (15 * q)) (b : Fin 16)
    (hb : b.val = base n) : base n < 15 ∧ count q = base n + (if thr b < q then 1 else 0) := by
  obtain ⟨hl, hu⟩ := round_range h1 h2
  rw [← hn] at hl hu
  obtain ⟨k, hk⟩ : ∃ k : Fin 31, (k.val : ℤ) - 15 = n := ⟨⟨(n + 15).toNat, by omega⟩, by dsimp only; omega⟩
  obtain ⟨hlt, hspec⟩ := base_spec k
  rw [hk] at hlt hspec
  refine ⟨hlt, ?_⟩
  obtain ⟨hr1, hr2⟩ := roundHalfEven_near (15 * q)
  rw [← hn] at hr1 hr2
  have key : ∀ i : Fin 15, decide (thr i.castSucc < q)
      = if i.val < base n then true else if base n < i.val then false else decide (thr b < q) := by
    intro i
    by_cases hi : i.val < base n
    · rw [if_pos hi, decide_eq_true_iff]
      have h := (hspec i).1 hi
      have h' : (30 * (thrZ i.castSucc : ℝ)) < (2 * (n : ℝ) - 1) * 2 ^ 28 := by exact_mod_cast h
      unfold thr
      rw [div_lt_iff₀ (by positivity)]
      nlinarith
    · rw [if_neg hi]
      by_cases hi' : base n < i.val
      · rw [if_pos hi', decide_eq_false_iff_not, not_lt]
        have h := (hspec i).2 hi'
        have h' : (2 * (n : ℝ) + 1) * 2 ^ 28 ≤ 30 * (thrZ i.castSucc : ℝ) := by exact_mod_cast h
        unfold thr
        rw [le_div_iff₀ (by positivity)]
        nlinarith
      · rw [if_neg hi', show i.castSucc = b from Fin.ext (by rw [Fin.val_castSucc]; omega)]
  have hc := countP_of_split ⟨base n, hlt⟩ (decide (thr b < q))
  unfold count
  rw [show (fun i : Fin 15 => decide (thr i.castSucc < q)) = fun i : Fin 15 => if i.val < base n then true
    else if base n < i.val then false else decide (thr b < q) from funext key]
  simpa using hc

/-- A count is at most fifteen. -/
theorem count_lt (q : ℝ) : count q < 16 := by
  have := List.countP_le_length (p := fun i : Fin 15 => decide (thr i.castSucc < q)) (l := List.finRange 15)
  rw [List.length_finRange] at this
  unfold count; omega

end Cert.KernelIdeal.Code

end
-- ==== Proof.Scaled.lean ====
/- The code of one value of a block, over the extended reals: a value `x` of a block whose largest magnitude is `a`.

   `ratio x a` is `x / a` (0 where `a` is 0 or infinite). The encoder's index half-word, its comparison with a threshold
   times `a`, and the reference's comparisons with the thresholds are all functions of `ratio x a`. -/
module

public import proofs.«01_k».proof.Proof.Code

@[expose] public section

set_option maxRecDepth 16384

noncomputable section

namespace Cert.KernelIdeal.Code

open Idealize.ShloMosaic Cert.KernelIdeal

/-- The divisor: the largest magnitude, or 1 where it is 0. -/
def divisor (a : EReal) : EReal := if a = 0 then 1 else a

/-- The value over its block's largest magnitude. -/
def ratio (x a : EReal) : ℝ := (x * Ideal.div 1 (divisor a)).toReal

/-- The shapes a block's value and largest magnitude can have: the largest magnitude 0 or infinite, or a positive real. -/
theorem ratio_cases {x a : EReal} (h1 : -a ≤ x) (h2 : x ≤ a) :
    (x = 0 ∧ a = 0) ∨ a = ⊤ ∨ ∃ r s : ℝ, x = (r : EReal) ∧ a = (s : EReal) ∧ 0 < s ∧ -s ≤ r ∧ r ≤ s := by
  induction a using EReal.rec with
  | bot => exfalso; rw [EReal.neg_bot] at h1; exact absurd (h1.trans h2) (by simp)
  | top => exact .inr (.inl rfl)
  | coe s =>
    induction x using EReal.rec with
    | bot => rw [← EReal.coe_neg] at h1; exact absurd h1 (not_le.2 (EReal.bot_lt_coe _))
    | top => exact absurd h2 (not_le.2 (EReal.coe_lt_top _))
    | coe r =>
      rw [← EReal.coe_neg, EReal.coe_le_coe_iff] at h1
      rw [EReal.coe_le_coe_iff] at h2
      rcases lt_trichotomy s 0 with hs | hs | hs
      · linarith
      · left; subst hs; constructor
        · have : r = 0 := by linarith
          rw [this]; rfl
        · rfl
      · exact .inr (.inr ⟨r, s, rfl, rfl, hs, h1, h2⟩)

theorem div_real (c s : ℝ) (hs : 0 < s) : Ideal.div (c : EReal) (s : EReal) = ((c / s : ℝ) : EReal) := by
  unfold Ideal.div
  rw [if_neg (by exact_mod_cast hs.ne'), ← EReal.coe_inv, ← EReal.coe_mul, div_eq_mul_inv]

theorem div_top (c : EReal) : Ideal.div c ⊤ = 0 := by
  unfold Ideal.div
  rw [if_neg (by simp), EReal.inv_top, mul_zero]

/-- A value times any multiple `c` of its block's reciprocal is `c` times its ratio. -/
theorem mul_div_divisor {x a : EReal} (h1 : -a ≤ x) (h2 : x ≤ a) (c : ℝ) :
    x * Ideal.div (c : EReal) (divisor a) = ((c * ratio x a : ℝ) : EReal) := by
  rcases ratio_cases h1 h2 with ⟨rfl, rfl⟩ | rfl | ⟨r, s, rfl, rfl, hs, -, -⟩
  · simp [ratio]
  · simp [ratio, divisor, div_top]
  · have hd : divisor (s : EReal) = (s : EReal) := if_neg (by exact_mod_cast hs.ne')
    unfold ratio
    rw [hd, div_real _ _ hs, show (1 : EReal) = ((1 : ℝ) : EReal) from rfl, div_real _ _ hs, ← EReal.coe_mul, ← EReal.coe_mul,
      EReal.toReal_coe]
    congr 1; ring

/-- The ratio lies in `[-1, 1]`. -/
theorem ratio_mem {x a : EReal} (h1 : -a ≤ x) (h2 : x ≤ a) : -1 ≤ ratio x a ∧ ratio x a ≤ 1 := by
  rcases ratio_cases h1 h2 with ⟨rfl, rfl⟩ | rfl | ⟨r, s, rfl, rfl, hs, hl, hu⟩
  · simp [ratio]
  · simp [ratio, divisor, div_top]
  · have h := mul_div_divisor h1 h2 1
    have hd : divisor (s : EReal) = (s : EReal) := if_neg (by exact_mod_cast hs.ne')
    rw [hd, div_real _ _ hs, ← EReal.coe_mul, EReal.coe_eq_coe_iff, one_mul] at h
    rw [← h, mul_one_div, div_le_one hs, le_div_iff₀ hs]
    constructor <;> linarith

/-- A value exceeds a threshold times the largest magnitude exactly where its ratio exceeds the threshold — the threshold
    positive where the ratio is 0. -/
theorem thr_mul_lt {x a : EReal} (h1 : -a ≤ x) (h2 : x ≤ a) (t : ℝ) (ht : ratio x a = 0 → 0 < t) :
    (t : EReal) * a < x ↔ t < ratio x a := by
  rcases ratio_cases h1 h2 with ⟨rfl, rfl⟩ | rfl | ⟨r, s, rfl, rfl, hs, hl, hu⟩
  · have h0 : ratio 0 0 = 0 := by simp [ratio]
    rw [h0] at ht ⊢
    simpa using (ht rfl).le
  · have h0 : ratio x ⊤ = 0 := by simp [ratio, divisor, div_top]
    have ht := ht h0
    rw [h0, EReal.coe_mul_top_of_pos ht]
    simpa using ht.le
  · have h := mul_div_divisor h1 h2 1
    have hd : divisor (s : EReal) = (s : EReal) := if_neg (by exact_mod_cast hs.ne')
    rw [hd, div_real _ _ hs, ← EReal.coe_mul, EReal.coe_eq_coe_iff, one_mul] at h
    rw [← h, ← EReal.coe_mul, EReal.coe_lt_coe_iff, mul_one_div, lt_div_iff₀ hs]

/-- The cell of a value: fifteen times its ratio, rounded. -/
def cell (x a : EReal) : ℤ := Ideal.roundHalfEven (15 * ratio x a)

/-- A value's base code is below 15. -/
theorem base_lt {x a : EReal} (h1 : -a ≤ x) (h2 : x ≤ a) : base (cell x a) < 15 := by
  obtain ⟨hl, hu⟩ := ratio_mem h1 h2
  obtain ⟨hn1, hn2⟩ := round_range hl hu
  have h := (base_spec ⟨(cell x a + 15).toNat, by unfold cell; omega⟩).1
  rwa [show (((cell x a + 15).toNat : ℕ) : ℤ) - 15 = cell x a by unfold cell; omega] at h

theorem base_zero : base 0 = 7 := by decide +kernel

theorem thr_seven_pos : 0 < thr 7 := by
  have : thrZ 7 = 10681087 := rfl
  unfold thr; rw [this]; norm_num

/-- The code of a value is its cell's base, and one more where it exceeds the base's threshold times the largest magnitude. -/
theorem code_eq {x a : EReal} (h1 : -a ≤ x) (h2 : x ≤ a) (b : Fin 16) (hb : b.val = base (cell x a)) :
    base (cell x a) + (if ((thr b : ℝ) : EReal) * a < x then 1 else 0) = count (ratio x a) := by
  obtain ⟨hl, hu⟩ := ratio_mem h1 h2
  rw [(code_eq_count hl hu rfl b hb).2]
  congr 1
  refine if_congr (thr_mul_lt h1 h2 _ fun h0 => ?_) rfl rfl
  have hz : cell x a = 0 := by
    unfold cell; rw [h0, mul_zero]; simp [Ideal.roundHalfEven]
  rw [hz, base_zero] at hb
  rw [show b = 7 from Fin.ext hb]
  exact thr_seven_pos

theorem ofBits_unit15 : Ideal.ofBits .f32 0x2E700000#32 = ((15 / 2 ^ 38 : ℝ) : EReal) := by
  simp [Ideal.ofBits, Ideal.ieee, -EReal.coe_mul]; norm_num

theorem ofBits_magic : Ideal.ofBits .bf16 0x3040#16 = ((192 / 2 ^ 38 : ℝ) : EReal) := by
  simp [Ideal.ofBits, Ideal.ieee, -EReal.coe_mul]; norm_num

theorem ofBits_unit : Ideal.ofBits .f32 0x52800000#32 = ((2 ^ 38 : ℝ) : EReal) := by
  have : Ideal.ofBits .f32 0x52800000#32 = ((274877906944 : ℝ) : EReal) := by
    simp [Ideal.ofBits, Ideal.ieee, -EReal.coe_mul]; norm_num
  rw [this]; norm_num

/-- Rounding commutes with adding 192, which is even. -/
theorem roundHalfEven_add (y : ℝ) : Ideal.roundHalfEven (y + 192) = Ideal.roundHalfEven y + 192 := by
  have hf : ⌊y + 192⌋ = ⌊y⌋ + 192 := by exact_mod_cast Int.floor_add_intCast y 192
  have he : Even (⌊y⌋ + 192) ↔ Even ⌊y⌋ := by rw [Int.even_add]; simp [show Even (192 : ℤ) by decide]
  unfold Ideal.roundHalfEven
  dsimp only
  rw [hf, show y + 192 - ((⌊y⌋ + 192 : ℤ) : ℝ) = y - (⌊y⌋ : ℝ) by push_cast; ring]
  simp only [he]
  split_ifs <;> omega

/-- The integer the encoder converts to is 192 more than the value's cell. -/
theorem cell_word {x a : EReal} (h1 : -a ≤ x) (h2 : x ≤ a) :
    Ideal.fptosi 32 (Ideal.liftRound Ideal.roundHalfEven
      ((x * Ideal.div (Ideal.ofBits .f32 0x2E700000#32) (divisor a) + Ideal.ofBits .bf16 0x3040#16) * Ideal.ofBits .f32 0x52800000#32))
      = BitVec.ofInt 32 (cell x a + 192) := by
  obtain ⟨hl, hu⟩ := ratio_mem h1 h2
  obtain ⟨hn1, hn2⟩ := round_range hl hu
  rw [ofBits_unit15, ofBits_unit, ofBits_magic, mul_div_divisor h1 h2, ← EReal.coe_add, ← EReal.coe_mul, Ideal.liftRound_coe]
  rw [show ((15 / 2 ^ 38 * ratio x a + 192 / 2 ^ 38) * 2 ^ 38 : ℝ) = 15 * ratio x a + 192 by ring, roundHalfEven_add]
  unfold Ideal.fptosi cell
  rw [Ideal.toIntClamped_coe, Int.floor_intCast, Int.ceil_intCast, ite_self]
  congr 1
  rw [min_eq_right (by norm_num; omega), max_eq_right (by norm_num; omega)]

/-- The index half-word of cell `n`: 16 in the upper byte, `n` modulo 32 in the lower. -/
theorem index_word : ∀ k : Fin 31,
    ((BitVec.ofInt 32 ((k.val : ℤ) - 15 + 192) + 12160#32).setWidth 16 &&& 7967#16)
      = 16#8 ++ BitVec.ofNat 8 (((k.val : ℤ) - 15) % 32).toNat := by decide +kernel

/-- The same at the cell of a value. -/
theorem index_word_cell {x a : EReal} (h1 : -a ≤ x) (h2 : x ≤ a) :
    ((BitVec.ofInt 32 (cell x a + 192) + 12160#32).setWidth 16 &&& 7967#16)
      = 16#8 ++ BitVec.ofNat 8 (cell x a % 32).toNat := by
  obtain ⟨hl, hu⟩ := ratio_mem h1 h2
  obtain ⟨hn1, hn2⟩ := round_range hl hu
  have h := index_word ⟨(cell x a + 15).toNat, by unfold cell; omega⟩
  rwa [show (((cell x a + 15).toNat : ℕ) : ℤ) - 15 = cell x a by unfold cell; omega] at h

/-- Both codes of a word: the even row's half-word is its code, the odd row's is its code plus 0x4000; multiplied by
    0x100001 and shifted down by 16, the low byte holds the even code over the odd one. -/
theorem packed_word : ∀ c d : Fin 16,
    ((((BitVec.ofNat 16 (0x4000 + d.val) ++ BitVec.ofNat 16 c.val : BitVec 32) * 1048577#32).sshiftRight 16).setWidth 16).setWidth 8
      = BitVec.ofNat 8 (16 * c.val + d.val) := by decide +kernel

end Cert.KernelIdeal.Code

end
-- ==== Proof.Group.lean ====
/- The words of a chunk, read at an index: word `i` of a lane packs the codes of that lane's values `2 i` and `2 i + 1`. -/
module

public import proofs.«01_k».proof.Proof.Chunk
public import proofs.«01_k».proof.Proof.Scaled
public import Idealize.ShloMosaic.Lib.BitcastPair
public import Idealize.ShloMosaic.Lib.ValueIdx
public import Idealize.ShloMosaic.Lib.Pipeline.Value

@[expose] public section

set_option maxRecDepth 16384

noncomputable section

namespace Cert.KernelIdeal.Chunk

open Idealize.ShloMosaic Idealize.SL.Sem Cert.KernelIdeal Cert.KernelIdeal.Gen Cert.KernelIdeal.Code
open Idealize.ShloMosaic.ValueIdx

/-! ## Reading the re-indexings -/

/-- A bit cast between two rank-2 arrays of the same lanes, read at a bit. -/
theorem bitcast_bit {R r n v w : Nat} (x : (⟨2, ![R, n]⟩ : Shape).Idx → BitVec v)
    (h : (⟨2, ![R, n]⟩ : Shape).Bitcasts v ⟨2, ![r, n]⟩ w) (hv : 0 < v) (a : Fin r) (l : Fin n) (q : Nat) (hq : q < w) (p : Fin R)
    (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Half-words read as bytes: byte `p` of a lane is a byte of half-word `p / 2`. -/
theorem bytes_of_halves (v : IVec S16x128 16) (p : Fin 32) (l : Fin 128) :
    bitcast S32x128 8 (bitcast S8x128 32 v bitcasts_S16x128_w16_S8x128_w32) bitcasts_S8x128_w32_S32x128_w8 (ix2 p l)
      = (v (ix2 ⟨p.val / 2, by omega⟩ l)).extractLsb' (8 * (p.val % 2)) 8 := by
  apply BitVec.eq_of_getLsbD_eq
  intro q hq
  have e1 := bitcast_bit (bitcast S8x128 32 v bitcasts_S16x128_w16_S8x128_w32) bitcasts_S8x128_w32_S32x128_w8 (by decide) p l q hq
    ⟨p.val / 4, by omega⟩ (by dsimp only; omega)
  have e2 := bitcast_bit v bitcasts_S16x128_w16_S8x128_w32 (by decide) ⟨p.val / 4, by omega⟩ l ((p.val * 8 + q) % 32) (by omega)
    ⟨p.val / 2, by omega⟩ (by dsimp only; omega)
  refine (e1.trans e2).trans ?_
  rw [BitVec.getLsbD_extractLsb', show (p.val / 4 * 32 + (p.val * 8 + q) % 32) % 16 = 8 * (p.val % 2) + q by omega]
  simp [hq]

/-- Bytes read as half-words: half-word `r` of a lane is bytes `2 r + 1` and `2 r`, the former upper. -/
theorem halves_of_bytes (u : IVec S32x128 8) (r : Fin 16) (l : Fin 128) :
    bitcast S16x128 16 (bitcast S8x128 32 u bitcasts_S32x128_w8_S8x128_w32) bitcasts_S8x128_w32_S16x128_w16 (ix2 r l)
      = u (ix2 ⟨2 * r.val + 1, by omega⟩ l) ++ u (ix2 ⟨2 * r.val, by omega⟩ l) := by
  apply BitVec.eq_of_getLsbD_eq
  intro q hq
  have e1 := bitcast_bit (bitcast S8x128 32 u bitcasts_S32x128_w8_S8x128_w32) bitcasts_S8x128_w32_S16x128_w16 (by decide) r l q hq
    ⟨r.val / 2, by omega⟩ (by dsimp only; omega)
  have e2 := bitcast_bit u bitcasts_S32x128_w8_S8x128_w32 (by decide) ⟨r.val / 2, by omega⟩ l ((r.val * 16 + q) % 32) (by omega)
    ⟨2 * r.val + q / 8, by omega⟩ (by dsimp only; omega)
  refine (e1.trans e2).trans ?_
  rw [BitVec.getLsbD_append, show (r.val / 2 * 32 + (r.val * 16 + q) % 32) % 8 = q % 8 by omega]
  by_cases hlo : q < 8
  · rw [if_pos hlo, Nat.mod_eq_of_lt hlo]
    congr 2
    exact congrArg (fun p => ix2 p l) (Fin.ext (by dsimp only; omega))
  · rw [if_neg hlo, show q % 8 = q - 8 by omega]
    congr 2
    exact congrArg (fun p => ix2 p l) (Fin.ext (by dsimp only; omega))

/-- Half-words read as words: word `r` of a lane is half-words `2 r + 1` and `2 r`, the former upper. -/
theorem word_of_halves (u : IVec S16x128 16) (r : Fin 8) (l : Fin 128) :
    bitcast S8x128 32 u bitcasts_S16x128_w16_S8x128_w32 (ix2 r l)
      = u (ix2 ⟨2 * r.val + 1, by omega⟩ l) ++ u (ix2 ⟨2 * r.val, by omega⟩ l) := by
  apply BitVec.eq_of_getLsbD_eq
  intro q hq
  have e1 := bitcast_bit u bitcasts_S16x128_w16_S8x128_w32 (by decide) r l q hq
    ⟨2 * r.val + q / 16, by omega⟩ (by dsimp only; omega)
  refine e1.trans ?_
  rw [BitVec.getLsbD_append, show (r.val * 32 + q) % 16 = q % 16 by omega]
  by_cases hlo : q < 16
  · rw [if_pos hlo, Nat.mod_eq_of_lt hlo]
    congr 2
    exact congrArg (fun p => ix2 p l) (Fin.ext (by dsimp only; omega))
  · rw [if_neg hlo, show q % 16 = q - 16 by omega]
    congr 2
    exact congrArg (fun p => ix2 p l) (Fin.ext (by dsimp only; omega))

/-- A constant word read as half-words: its lower half in even rows, its upper half in odd ones. -/
theorem halves_of_word (w : BitVec 32) (r : Fin 16) (l : Fin 128) :
    bitcast S16x128 16 (broadcast S8x128 w) bitcasts_S8x128_w32_S16x128_w16 (ix2 r l)
      = w.extractLsb' (16 * (r.val % 2)) 16 := by
  apply BitVec.eq_of_getLsbD_eq
  intro q hq
  have e1 := bitcast_bit (broadcast S8x128 w) bitcasts_S8x128_w32_S16x128_w16 (by decide) r l q hq
    ⟨r.val / 2, by omega⟩ (by dsimp only; omega)
  refine e1.trans ?_
  rw [BitVec.getLsbD_extractLsb', show (r.val * 16 + q) % 32 = 16 * (r.val % 2) + q by omega]
  simp [hq, broadcast]

/-- A lane's gather along the rows. -/
theorem gather_rows {α : Type} {n : Nat} (x : (⟨2, ![n, 128]⟩ : Shape).Idx → α) (idx : IVec ⟨2, ![n, 128]⟩ 32) (p : Fin n) (l : Fin 128)
    (k : Fin n) (hk : k.val = (idx (ix2 p l)).toNat % n) :
    dynamicGather (s := ⟨2, ![n, 128]⟩) 0 x idx (ix2 p l) = x (ix2 k l) := by
  unfold dynamicGather
  congr 1
  funext c
  match c with
  | ⟨0, _⟩ => exact Fin.ext hk.symm
  | ⟨1, _⟩ => rfl

/-- The table read of a half-word: the entries its upper and lower bytes name. -/
theorem tableRead_apply (tab : Vec Ideal S32x128 .i8) (v : IVec S16x128 16) (r : Fin 16) (l : Fin 128) (hi lo : Fin 32)
    (hv : v (ix2 r l) = BitVec.ofNat 8 hi.val ++ BitVec.ofNat 8 lo.val) :
    tableRead (F := Ideal) tab v (ix2 r l) = (tab (ix2 hi l) : BitVec 8) ++ (tab (ix2 lo l) : BitVec 8) := by
  unfold tableRead
  rw [halves_of_bytes, shapeCast_shapeCast]
  have hread : ∀ (p : Fin 32) (k : Fin 32), (v (ix2 ⟨p.val / 2, by omega⟩ l)).extractLsb' (8 * (p.val % 2)) 8 = BitVec.ofNat 8 k.val →
      dynamicGather (s := S32x128) 0 tab (extsi 32 (bitcast S32x128 8 (bitcast S8x128 32 v bitcasts_S16x128_w16_S8x128_w32)
        bitcasts_S8x128_w32_S32x128_w8) natLt_8_32) (ix2 p l) = tab (ix2 k l) := by
    intro p k hk
    refine gather_rows (n := 32) tab _ p l k ?_
    show k.val = (BitVec.signExtend 32 (bitcast S32x128 8 (bitcast S8x128 32 v bitcasts_S16x128_w16_S8x128_w32)
        bitcasts_S8x128_w32_S32x128_w8 (ix2 p l))).toNat % 32
    rw [bytes_of_halves, hk]
    clear hk; revert k; decide
  refine congrArg₂ (· ++ ·) (hread ⟨2 * r.val + 1, by omega⟩ hi ?_) (hread ⟨2 * r.val, by omega⟩ lo ?_)
  · rw [show (⟨(2 * r.val + 1) / 2, by omega⟩ : Fin 16) = r from Fin.ext (by dsimp only; omega), hv,
      show 8 * ((2 * r.val + 1) % 2) = 8 by omega]
    clear hv hread; revert hi lo; decide +kernel
  · rw [show (⟨(2 * r.val) / 2, by omega⟩ : Fin 16) = r from Fin.ext (by dsimp only; omega), hv,
      show 8 * ((2 * r.val) % 2) = 0 by omega]
    clear hv hread; revert hi lo; decide +kernel

/-- The threshold read of a half-word whose lower byte is `b`. -/
theorem thresholdRead_apply (tab : FVec Ideal S16x128 .bf16) (j : IVec S16x128 16) (r : Fin 16) (l : Fin 128) (b : Fin 16)
    (hj : j (ix2 r l) = 16#8 ++ BitVec.ofNat 8 b.val) : thresholdRead tab j (ix2 r l) = tab (ix2 b l) := by
  unfold thresholdRead
  rw [shapeCast_shapeCast]
  refine gather_rows (n := 16) tab _ r l b ?_
  show b.val = (BitVec.signExtend 32 (j (ix2 r l) &&& 255#16)).toNat % 16
  rw [hj]
  clear hj; revert b; decide

/-- A row repeated, read. -/
theorem repeated_apply (a : FVec Ideal S8x128 .f32) (b : Fin 8) (r : Fin 16) (l : Fin 128) :
    repeated a b (ix2 r l) = a (ix2 b l) := by
  unfold repeated
  rw [shapeCast_self]
  unfold broadcastTo extractStridedSlice
  congr 1
  funext c
  match c with
  | ⟨0, _⟩ => exact Fin.ext (Nat.add_zero _)
  | ⟨1, _⟩ => exact Fin.ext (Nat.zero_add _)

/-- The reciprocals, read. -/
theorem inverses_apply (a : FVec Ideal S8x128 .f32) (i : S8x128.Idx) :
    inverses a i = Ideal.div (Ideal.ofBits .f32 0x2E700000#32) (divisor (a i)) := by
  show Ideal.div _ (Scalar.select (Ideal.cmp .oeq (a i) (Ideal.ofBits .f32 0x00000000#32)) (Ideal.ofBits .f32 0x3F800000#32) (a i)) = _
  congr 1
  rw [Ideal.ofBits_zero_f32, Ideal.ofBits_one_f32]
  unfold divisor Ideal.cmp Scalar.select
  by_cases h : a i = 0 <;> simp [h]

/-! ## The tables' contents -/

/-- The cell table as the kernel is given it. -/
def cellTable : Vec Ideal S32x128 .i8 := fun j => lit0 ((j 0 : Fin 32))

/-- The threshold table as the kernel is given it. -/
def thrTable : Vec Ideal S16x128 .f32 := fun j => Ideal.ofBits .f32 (lit2 ((j 0 : Fin 16)))

/-- Over the extended reals rounding down changes nothing. -/
theorem roundDown_apply (y z : FVec Ideal S16x128 .f32) (i : S16x128.Idx) :
    truncf .bf16 (select (cmpf .ogt (extf .f32 (truncf .bf16 y bitsLt_bf16_f32) bitsLt_bf16_f32) y) z
      (extf .f32 (truncf .bf16 y bitsLt_bf16_f32) bitsLt_bf16_f32)) bitsLt_bf16_f32 i = y i := by
  show Scalar.select (Ideal.cmp .ogt (y i) (y i)) (z i) (y i) = y i
  simp [Ideal.cmp, Scalar.select]

/-- A scaled threshold is the threshold times its block's largest magnitude. -/
theorem scaledThresholds_apply (a : FVec Ideal S8x128 .f32) (b : Fin 8) (r : Fin 16) (l : Fin 128) :
    scaledThresholds thrTable a b (ix2 r l) = ((thr r : ℝ) : EReal) * a (ix2 b l) := by
  refine (roundDown_apply _ _ _).trans ?_
  rw [mulf_apply, repeated_apply]
  exact congrArg (· * _) (ofBits_thr r)

/-! ## A value's half-word -/

/-- The half-word that holds code `c` in row `r`: the code in even rows, the code and 0x4000 in odd ones. -/
def codeWord (r : Fin 16) (c : ℕ) : BitVec 16 := BitVec.ofNat 16 ((if r.val % 2 = 0 then 0 else 0x4000) + c)

theorem selector_spec : ∀ (r : Fin 16) (b : Fin 15) (g : Bool),
    (16#8 ++ BitVec.ofNat 8 b.val : BitVec 16) + (if g then (805433345#32 : BitVec 32).extractLsb' (16 * (r.val % 2)) 16
      else (805367808#32 : BitVec 32).extractLsb' (16 * (r.val % 2)) 16) = codeWord r (b.val + (if g then 1 else 0)) := by
  decide +kernel

/-- The index half-words of a group: its values' cells, modulo 32, under 16. -/
theorem cellIndex_apply (xi : FVec Ideal S16x128 .bf16) (i : S16x128.Idx) (x a : EReal) (h1 : -a ≤ x) (h2 : x ≤ a)
    (hx : xi i = x * Ideal.div (Ideal.ofBits .f32 0x2E700000#32) (divisor a)) :
    cellIndex xi i = 16#8 ++ BitVec.ofNat 8 (cell x a % 32).toNat := by
  rw [← index_word_cell h1 h2, ← cell_word h1 h2, ← hx]
  rfl

/-- A value's half-word holds its code. -/
theorem halfWords_apply (tab ib xg : FVec Ideal S16x128 .bf16) (r : Fin 16) (l : Fin 128) (x a : EReal) (h1 : -a ≤ x) (h2 : x ≤ a)
    (hx : xg (ix2 r l) = x) (hib : ib (ix2 r l) = Ideal.div (Ideal.ofBits .f32 0x2E700000#32) (divisor a))
    (htab : ∀ b : Fin 16, tab (ix2 b l) = ((thr b : ℝ) : EReal) * a) :
    halfWords xg (thresholdRead tab (tableRead (F := Ideal) cellTable (cellIndex (mulf xg ib))))
      (tableRead (F := Ideal) cellTable (cellIndex (mulf xg ib))) (ix2 r l) = codeWord r (count (ratio x a)) := by
  have hc := cellIndex_apply (mulf xg ib) (ix2 r l) x a h1 h2 (by rw [mulf_apply, hx, hib])
  obtain ⟨k, hk⟩ : ∃ k : Fin 32, k.val = (cell x a % 32).toNat := ⟨⟨(cell x a % 32).toNat, by omega⟩, rfl⟩
  have hlt := base_lt h1 h2
  have hcode := code_eq h1 h2 ⟨base (cell x a), (base_lt h1 h2).trans (by norm_num)⟩ rfl
  have hbase : base (cell x a) = (lit0 k).toNat := by
    unfold base; rw [← hk]; congr 2; exact Fin.ext (Nat.mod_eq_of_lt k.isLt)
  have hj : tableRead (F := Ideal) cellTable (cellIndex (mulf xg ib)) (ix2 r l) = 16#8 ++ BitVec.ofNat 8 (base (cell x a)) := by
    rw [tableRead_apply cellTable _ r l 16 k (by rw [hc, hk]; rfl), hbase, BitVec.ofNat_toNat]
    rfl
  have ht := thresholdRead_apply tab _ r l ⟨base (cell x a), by omega⟩ hj
  rw [htab] at ht
  show IntOp.addi (tableRead (F := Ideal) cellTable (cellIndex (mulf xg ib)) (ix2 r l))
    (Scalar.select (Ideal.cmp .ogt (xg (ix2 r l)) (thresholdRead tab (tableRead (F := Ideal) cellTable (cellIndex (mulf xg ib))) (ix2 r l)))
      (k0_pay1 (ix2 r l)) (k0_pay2 (ix2 r l))) = _
  rw [ht, hj, hx, show k0_pay1 (ix2 r l) = _ from halves_of_word _ r l, show k0_pay2 (ix2 r l) = _ from halves_of_word _ r l, ← hcode]
  have hs := selector_spec r ⟨base (cell x a), hlt⟩ (decide (((thr ⟨base (cell x a), by omega⟩ : ℝ) : EReal) * a < x))
  simp only [decide_eq_true_eq] at hs
  rw [← hs]
  unfold IntOp.addi Scalar.select Ideal.cmp
  by_cases h : ((thr ⟨base (cell x a), by omega⟩ : ℝ) : EReal) * a < x <;> simp [h]

end Cert.KernelIdeal.Chunk

end
-- ==== Proof.Rows.lean ====
/- The packed rows and the block maxima of a chunk, read at an index. -/
module

public import proofs.«01_k».proof.Proof.Group

@[expose] public section

set_option maxRecDepth 16384

noncomputable section

namespace Cert.KernelIdeal.Chunk

open Idealize.ShloMosaic Idealize.SL.Sem Cert.KernelIdeal Cert.KernelIdeal.Gen Cert.KernelIdeal.Code
open Idealize.ShloMosaic.ValueIdx

/-! ## The largest magnitude -/

/-- The largest magnitude of finitely many values. -/
def peak {n : ℕ} (f : Fin n → EReal) : EReal :=
  (Finset.univ : Finset (Fin n)).fold max (Ideal.ofBits .f32 0xFF800000#32) fun k => max (f k) (-(f k))

/-- No value exceeds the largest magnitude, in either direction. -/
theorem le_peak {n : ℕ} (f : Fin n → EReal) (k : Fin n) : -peak f ≤ f k ∧ f k ≤ peak f := by
  have h : max (f k) (-(f k)) ≤ peak f := (Finset.le_fold_max _).2 (.inr ⟨k, Finset.mem_univ k, le_rfl⟩)
  exact ⟨EReal.neg_le_of_neg_le ((le_max_right _ _).trans h), (le_max_left _ _).trans h⟩

/-- A block's maximum, read. -/
theorem blockMax_apply (x : FVec Ideal S512x128 .bf16) (b : Fin 8) (l : Fin 128) :
    blockMax x b (ix2 (0 : Fin 1) l) = peak fun p : Fin 64 => x (ix2 ⟨64 * b.val + p.val, by omega⟩ l) := by
  unfold blockMax
  rw [shapeCast_apply _ _ _ (ix1 l) (by
    rw [Shape.rowMajor_val_one, Shape.rowMajor_val_two]; simp)]
  refine (Ideal.multiReduction_maximumf_single _ _ _ _ _ _).trans ?_
  unfold peak
  congr 1
  funext p
  have e : extractStridedSlice S64x128 ![64 * b.val, 0] x (slices64 b) (reduces_S64x128_S128.lift (ix1 l) p)
      = x (ix2 ⟨64 * b.val + p.val, by have := p.isLt; have : (p : ℕ) < 64 := this; omega⟩ l) := by
    unfold extractStridedSlice
    congr 1
    funext c
    match c with
    | ⟨0, _⟩ => rfl
    | ⟨1, _⟩ => exact Fin.ext (Nat.zero_add _)
  show max (extractStridedSlice S64x128 ![64 * b.val, 0] x (slices64 b) (reduces_S64x128_S128.lift (ix1 l) p)) (-_) = _
  rw [e]

/-- The block maxima, read. -/
theorem blockMaxima_apply (x : FVec Ideal S512x128 .bf16) (b : Fin 8) (l : Fin 128) :
    blockMaxima x (ix2 b l) = peak fun p : Fin 64 => x (ix2 ⟨64 * b.val + p.val, by omega⟩ l) := by
  rw [← blockMax_apply]
  unfold blockMaxima
  refine concatenate_ofFn_apply (t := S8x128) (s₁ := S1x128) (0 : Fin 2) (fun b : Fin 8 => blockMax x b) _ rfl 1 rfl (ix2 b l) b (Nat.div_one _) (ix2 (0 : Fin 1) l)
    (Nat.mod_one _).symm ?_
  intro c hc
  match c with
  | ⟨0, _⟩ => exact absurd rfl hc
  | ⟨1, _⟩ => rfl

/-! ## The packed codes -/

/-- A group's word, read: both rows' half-words, multiplied. -/
theorem group_apply (x : FVec Ideal S512x128 .bf16) (a : FVec Ideal S8x128 .f32) (b : Fin 8) (n : Fin 32) (r : Fin 8) (l : Fin 128)
    (h : ∀ p : Fin 16, -(a (ix2 b l)) ≤ x (ix2 ⟨16 * n.val + p.val, by omega⟩ l) ∧ x (ix2 ⟨16 * n.val + p.val, by omega⟩ l) ≤ a (ix2 b l)) :
    group (F := Ideal) cellTable thrTable x a b n (ix2 r l)
      = (BitVec.ofNat 16 (0x4000 + count (ratio (x (ix2 ⟨16 * n.val + (2 * r.val + 1), by omega⟩ l)) (a (ix2 b l))))
        ++ BitVec.ofNat 16 (count (ratio (x (ix2 ⟨16 * n.val + 2 * r.val, by omega⟩ l)) (a (ix2 b l)))) : BitVec 32) * 1048577#32 := by
  have hw : ∀ p : Fin 16, halfWords (rows16 x n)
      (thresholdRead (scaledThresholds thrTable a b) (tableRead (F := Ideal) cellTable (cellIndex (mulf (rows16 x n)
        (truncf .bf16 (repeated (inverses a) b) bitsLt_bf16_f32)))))
      (tableRead (F := Ideal) cellTable (cellIndex (mulf (rows16 x n) (truncf .bf16 (repeated (inverses a) b) bitsLt_bf16_f32)))) (ix2 p l)
      = codeWord p (count (ratio (x (ix2 ⟨16 * n.val + p.val, by omega⟩ l)) (a (ix2 b l)))) := by
    intro p
    refine halfWords_apply _ _ _ p l _ (a (ix2 b l)) (h p).1 (h p).2 ?_ ?_ ?_
    · unfold rows16 extractStridedSlice
      congr 1
      funext c
      match c with
      | ⟨0, _⟩ => rfl
      | ⟨1, _⟩ => exact Fin.ext (Nat.zero_add _)
    · rw [truncf_apply, repeated_apply, inverses_apply]
    · intro b'
      exact scaledThresholds_apply a b b' l
  unfold group groupWords
  refine congrArg (· * 1048577#32) ?_
  rw [word_of_halves, hw, hw]
  unfold codeWord
  refine congrArg₂ (· ++ ·) ?_ ?_
  · rw [if_neg (by dsimp only; omega)]
  · rw [if_pos (by dsimp only; omega), Nat.zero_add]

/-- Two groups' upper halves, read. -/
theorem packedPair_apply (u v : IVec S8x128 32) (p : Fin 16) (l : Fin 128) :
    packedPair u v (ix2 p l) = ((if h : p.val < 8 then u (ix2 ⟨p.val, h⟩ l) else v (ix2 ⟨p.val - 8, by omega⟩ l)).sshiftRight 16).setWidth 16 := by
  have e : concatenate S16x128 0 [⟨S8x128, u⟩, ⟨S8x128, v⟩] concatenates_S8x128_S8x128_S16x128_d0 (ix2 p l)
      = if h : p.val < 8 then u (ix2 ⟨p.val, h⟩ l) else v (ix2 ⟨p.val - 8, by omega⟩ l) := by
    by_cases h : p.val < 8
    · rw [dif_pos h]
      refine concatenate_pair_apply_left (0 : Fin 2) u v _ (ix2 p l) rfl (ix2 ⟨p.val, h⟩ l) ?_
      intro c
      match c with
      | ⟨0, _⟩ => rfl
      | ⟨1, _⟩ => rfl
    · rw [dif_neg h]
      refine concatenate_pair_apply_right (0 : Fin 2) u v _ (ix2 p l) rfl rfl (ix2 ⟨p.val - 8, by omega⟩ l) ?_ ?_
      · intro c hc
        match c with
        | ⟨0, _⟩ => exact absurd rfl hc
        | ⟨1, _⟩ => rfl
      · show p.val - 8 + 8 = p.val
        omega
  rw [← e]
  rfl

/-- A packed row, read: the codes of values `2 i` and `2 i + 1` of the lane. -/
theorem packedRows_apply (x : FVec Ideal S512x128 .bf16) (i : Fin 256) (l : Fin 128) :
    (packedRows (F := Ideal) cellTable thrTable x (blockMaxima x) (ix2 i l)).setWidth 8
      = BitVec.ofNat 8 (16 * count (ratio (x (ix2 ⟨2 * i.val, by omega⟩ l)) (blockMaxima x (ix2 ⟨i.val / 32, by omega⟩ l)))
        + count (ratio (x (ix2 ⟨2 * i.val + 1, by omega⟩ l)) (blockMaxima x (ix2 ⟨i.val / 32, by omega⟩ l)))) := by
  have hbound : ∀ (b : Fin 8) (q : Fin 512), q.val / 64 = b.val →
      -(blockMaxima x (ix2 b l)) ≤ x (ix2 q l) ∧ x (ix2 q l) ≤ blockMaxima x (ix2 b l) := by
    intro b q hq
    rw [blockMaxima_apply]
    have h := le_peak (fun p : Fin 64 => x (ix2 ⟨64 * b.val + p.val, by omega⟩ l)) ⟨q.val % 64, by omega⟩
    have e : (⟨64 * b.val + q.val % 64, by omega⟩ : Fin 512) = q := Fin.ext (by dsimp only; omega)
    dsimp only at h
    rwa [e] at h
  have hcat : packedRows (F := Ideal) cellTable thrTable x (blockMaxima x) (ix2 i l) = packedPair
      (group (F := Ideal) cellTable thrTable x (blockMaxima x) ⟨i.val / 16 / 2, by omega⟩ ⟨2 * (i.val / 16), by omega⟩)
      (group (F := Ideal) cellTable thrTable x (blockMaxima x) ⟨i.val / 16 / 2, by omega⟩ ⟨2 * (i.val / 16) + 1, by omega⟩)
      (ix2 (⟨i.val % 16, by omega⟩ : Fin 16) l) := by
    unfold packedRows
    refine concatenate_ofFn_apply (t := S256x128) (s₁ := S16x128) (0 : Fin 2) (fun n : Fin 16 => packedPair
      (group (F := Ideal) cellTable thrTable x (blockMaxima x) ⟨n.val / 2, by omega⟩ ⟨2 * n.val, by omega⟩)
      (group (F := Ideal) cellTable thrTable x (blockMaxima x) ⟨n.val / 2, by omega⟩ ⟨2 * n.val + 1, by omega⟩))
      _ rfl 16 rfl (ix2 i l) ⟨i.val / 16, by omega⟩ rfl (ix2 (⟨i.val % 16, by omega⟩ : Fin 16) l) rfl ?_
    intro c hc
    match c with
    | ⟨0, _⟩ => exact absurd rfl hc
    | ⟨1, _⟩ => rfl
  rw [hcat, packedPair_apply]
  have hb : (⟨i.val / 16 / 2, by omega⟩ : Fin 8) = ⟨i.val / 32, by omega⟩ := Fin.ext (by dsimp only; omega)
  rw [hb]
  have hfin : ∀ q q' : ℝ, ((((BitVec.ofNat 16 (0x4000 + count q') ++ BitVec.ofNat 16 (count q) : BitVec 32) * 1048577#32).sshiftRight 16).setWidth 16).setWidth 8
      = BitVec.ofNat 8 (16 * count q + count q') := fun q q' => packed_word ⟨count q, count_lt q⟩ ⟨count q', count_lt q'⟩
  by_cases h : i.val % 16 < 8
  · rw [dif_pos h, group_apply x _ _ _ _ _ (fun p => hbound _ _ (by dsimp only; omega)), hfin]
    refine congrArg (BitVec.ofNat 8) (congrArg₂ (16 * · + ·)
      (congrArg (fun p => count (ratio (x (ix2 p l)) _)) (Fin.ext ?_)) (congrArg (fun p => count (ratio (x (ix2 p l)) _)) (Fin.ext ?_)))
    · dsimp only; omega
    · dsimp only; omega
  · rw [dif_neg h, group_apply x _ _ _ _ _ (fun p => hbound _ _ (by dsimp only; omega)), hfin]
    refine congrArg (BitVec.ofNat 8) (congrArg₂ (16 * · + ·)
      (congrArg (fun p => count (ratio (x (ix2 p l)) _)) (Fin.ext ?_)) (congrArg (fun p => count (ratio (x (ix2 p l)) _)) (Fin.ext ?_)))
    · dsimp only; omega
    · dsimp only; omega

end Cert.KernelIdeal.Chunk

end
-- ==== Proof.Block.lean ====
/- What the encoder leaves in one block of 128 rows: the packed codes and the blocks' largest magnitudes. -/
module

public import proofs.«01_k».proof.Proof.Rows
public import Idealize.ShloMosaic.Lib.WholeRead
public import Idealize.ShloMosaic.Lib.Pipeline.CanonAppend

@[expose] public section

set_option maxRecDepth 16384

noncomputable section

namespace Cert.KernelIdeal.Chunk

open Idealize.ShloMosaic Idealize.SL.Sem Cert.KernelIdeal Cert.KernelIdeal.Gen Cert.KernelIdeal.Code
open Idealize.ShloMosaic.ValueIdx

/-- The largest magnitude of block `b` of row `R` of an array of rows of 12288. -/
def rowPeak {n : ℕ} (X : (⟨2, ![n, 12288]⟩ : Shape).Idx → EReal) (R : Fin n) (b : Fin 192) : EReal :=
  peak fun p : Fin 64 => X (ix2 R ⟨64 * b.val + p.val, by omega⟩)

/-- Byte `C` of row `R`: the codes of values `2 C` and `2 C + 1`, the former upper. -/
def rowByte {n : ℕ} (X : (⟨2, ![n, 12288]⟩ : Shape).Idx → EReal) (R : Fin n) (C : Fin 6144) : BitVec 8 :=
  BitVec.ofNat 8 (16 * count (ratio (X (ix2 R ⟨2 * C.val, by omega⟩)) (rowPeak X R ⟨C.val / 32, by omega⟩))
    + count (ratio (X (ix2 R ⟨2 * C.val + 1, by omega⟩)) (rowPeak X R ⟨C.val / 32, by omega⟩)))

/-- Where a cell of a unit-stride rectangle lies along one axis. -/
theorem cell_at {o o' v w : ℕ} (ho : o = o') (hw : o' + v = w) : o + 1 * v = w := by
  omega

section
variable (𝒱 : Variants) (c : Dev nD) (bd : Option 𝒱.V) (i : grid0.Coords) (arg1 : Memref sig .tc .vmem S128x12288 .bf16) (harg1 : arg1.IsWhole) (arg2 : Memref sig .tc .vmem S32x128 .i8) (harg2 : arg2.IsWhole) (arg3 : Memref sig .tc .vmem S32x128 .i8) (harg3 : arg3.IsWhole) (arg4 : Memref sig .tc .vmem S16x128 .f32) (harg4 : arg4.IsWhole) (arg5 : Memref sig .tc .vmem S128x6144 .i8) (harg5 : arg5.IsWhole) (arg6 : Memref sig .tc .vmem S128x192 .f32) (harg6 : arg6.IsWhole) (arg7 : Memref sig .tc .vmem S192x128 .f32) (harg7 : arg7.IsWhole) (X : FVec Ideal S128x12288 .bf16)

/-- The chunk of trip `k`, read: its row `p` of lane `l` is column `512 k + p` of row `l`. -/
theorem chunkOf_apply (k : Fin k0_t1_loop.trips) (p : Fin 512) (l : Fin 128) (q : Fin 12288) (hq : q.val = 512 * k.val + p.val) :
    chunkOf (F := Ideal) arg1 (harg1.unread X) k (ix2 p l) = X (ix2 l q) := by
  have hload : ∀ (t : Fin 4) (a b : Fin 128) (q : Fin 12288), q.val = 512 * k.val + 128 * t.val + b.val →
      loaded (F := Ideal) arg1 (harg1.unread X) k t (ix2 a b) = X (ix2 a q) := by
    intro t a b q hq
    unfold loaded
    rw [harg1.readAt_unread]
    congr 1
    funext d
    match d with
    | ⟨0, _⟩ =>
      refine Fin.ext ?_
      show k0_off1 k (BitVec.ofNat 32 (128 * t.val)) 0 + 1 * a.val = a.val
      rw [k0_off1_eq]
      show 0 + 1 * a.val = a.val
      omega
    | ⟨1, _⟩ =>
      refine Fin.ext ?_
      show k0_off1 k (BitVec.ofNat 32 (128 * t.val)) 1 + 1 * b.val = q.val
      rw [k0_off1_eq]
      show 512 * k.val + 128 * t.val + 1 * b.val = q.val
      omega
  have hcat : chunkOf (F := Ideal) arg1 (harg1.unread X) k = concatenate S512x128 0 (List.ofFn fun t : Fin 4 => ⟨S128x128,
      transpose S128x128 [1, 0] (shapeCast S128x128 (loaded (F := Ideal) arg1 (harg1.unread X) k t) shapeCasts_S128x128_S128x128)
        transposes_S128x128_p1_0_S128x128⟩) concatenates_S128x128_S128x128_S128x128_S128x128_S512x128_d0 := rfl
  rw [hcat]
  refine (concatenate_ofFn_apply (t := S512x128) (s₁ := S128x128) (0 : Fin 2) (fun t : Fin 4 =>
      transpose S128x128 [1, 0] (shapeCast S128x128 (loaded (F := Ideal) arg1 (harg1.unread X) k t) shapeCasts_S128x128_S128x128)
        transposes_S128x128_p1_0_S128x128) _ rfl 128 rfl (ix2 p l) ⟨p.val / 128, by omega⟩ rfl
      (ix2 (⟨p.val % 128, by omega⟩ : Fin 128) l) rfl ?_).trans ?_
  · intro d hd
    match d with
    | ⟨0, _⟩ => exact absurd rfl hd
    | ⟨1, _⟩ => rfl
  · rw [shapeCast_self]
    refine (transpose_apply _ _ _ _ (ix2 l (⟨p.val % 128, by omega⟩ : Fin 128)) ?_).trans
      (hload _ l ⟨p.val % 128, by omega⟩ q (by dsimp only; omega))
    intro d
    match d with
    | ⟨0, _⟩ => rfl
    | ⟨1, _⟩ => rfl

/-- The chunk's block maxima are the row's. -/
theorem chunkMax_apply (k : Fin k0_t1_loop.trips) (b : Fin 8) (l : Fin 128) (B : Fin 192) (hB : B.val = 8 * k.val + b.val) :
    blockMaxima (chunkOf (F := Ideal) arg1 (harg1.unread X) k) (ix2 b l) = rowPeak X l B := by
  rw [blockMaxima_apply]
  unfold rowPeak
  congr 1
  funext p
  exact chunkOf_apply arg1 harg1 X k _ l _ (by dsimp only; omega)

/-- The chunk's packed codes are the row's. -/
theorem chunkByte_apply (k : Fin k0_t1_loop.trips) (j : Fin 256) (l : Fin 128) (C : Fin 6144) (hC : C.val = 256 * k.val + j.val) :
    (packedRows (F := Ideal) cellTable thrTable (chunkOf (F := Ideal) arg1 (harg1.unread X) k)
      (blockMaxima (chunkOf (F := Ideal) arg1 (harg1.unread X) k)) (ix2 j l)).setWidth 8 = rowByte X l C := by
  rw [packedRows_apply]
  unfold rowByte
  rw [chunkMax_apply arg1 harg1 X k _ l ⟨C.val / 32, by omega⟩ (by dsimp only; omega),
    chunkOf_apply arg1 harg1 X k _ l ⟨2 * C.val, by omega⟩ (by dsimp only; omega),
    chunkOf_apply arg1 harg1 X k _ l ⟨2 * C.val + 1, by omega⟩ (by dsimp only; omega)]

/-- Every store of codes up to trip `n` writes the row's bytes. -/
theorem codes_pieces (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 cellTable thrTable (harg1.unread X) n).1,
      ∀ x : p.1.shape.Idx, p.2 x = (fun y : S128x6144.Idx => rowByte X (y 0) (y 1)) (p.1.emb x) := by
  induction n with
  | zero => intro p hp; exact absurd hp List.not_mem_nil
  | succ n ih =>
    have hk : n < k0_t1_loop.trips := hn
    intro p hp
    rw [pb_k0_t1_succ 𝒱 c bd i arg1 harg1 arg2 harg2 arg3 harg3 arg4 harg4 arg5 harg5 arg6 harg6 arg7 harg7 cellTable thrTable (harg1.unread X) ⟨n, hk⟩] at hp
    rcases List.mem_append.1 hp with hp | hp
    · rw [trip_stores_codes] at hp
      have hpay : ∀ (h : Fin 2) (off : Fin 2 → ℕ) (hs : S256x128.Slices off S128x128) (hoff : off = ![128 * h.val, 0])
          (x : S128x128.Idx) (y : S128x6144.Idx)
          (hy0 : (y 0).val = (x 0).val) (hy1 : (y 1).val = 256 * n + 128 * h.val + (x 1).val),
          codeTile off hs (packedRows (F := Ideal) cellTable thrTable
            (chunkOf (F := Ideal) arg1 (harg1.unread X) ⟨n, hk⟩) (blockMaxima (chunkOf (F := Ideal) arg1 (harg1.unread X) ⟨n, hk⟩))) x = rowByte X (y 0) (y 1) := by
        intro h off hs hoff x y hy0 hy1
        subst hoff
        obtain ⟨a, b, rfl⟩ : ∃ a b : Fin 128, x = ix2 a b := ⟨_, _, eq_ix2 x⟩
        have hR : (y 0 : Fin 128) = a := Fin.ext hy0
        have hC : (y 1).val = 256 * n + (⟨128 * h.val + b.val, by omega⟩ : Fin 256).val := hy1.trans (Nat.add_assoc _ _ _)
        refine Eq.trans ?_ ((chunkByte_apply arg1 harg1 X ⟨n, hk⟩ ⟨128 * h.val + b.val, by omega⟩ a (y 1) hC).trans
          (by rw [hR]))
        unfold codeTile
        refine congrArg (BitVec.setWidth 8) ((transpose_apply _ _ _ (ix2 a b) (ix2 b a) ?_).trans ?_)
        · intro d
          match d with
          | ⟨0, _⟩ => rfl
          | ⟨1, _⟩ => rfl
        · unfold extractStridedSlice
          refine congrArg _ (funext fun d => ?_)
          match d with
          | ⟨0, _⟩ => rfl
          | ⟨1, _⟩ => exact Fin.ext (Nat.zero_add _)
      rcases List.mem_cons.1 hp with rfl | hp
      · intro x
        have hoff : k0_off3 ⟨n, hk⟩ 128#32 = ![0, 256 * n + 128 * 1] := k0_off3_eq ⟨n, hk⟩ 1
        refine hpay 1 ![128, 0] slices_S256x128_o128_0_S128x128 rfl x _ (cell_at (congrFun hoff 0) (Nat.zero_add _)) (cell_at (congrFun hoff 1) rfl)
      · obtain rfl := List.mem_singleton.1 hp
        intro x
        have hoff : k0_off3 ⟨n, hk⟩ 0#32 = ![0, 256 * n + 128 * 0] := k0_off3_eq ⟨n, hk⟩ 0
        refine hpay 0 ![0, 0] slices_S256x128_o0_0_S128x128 rfl x _ (cell_at (congrFun hoff 0) (Nat.zero_add _)) (cell_at (congrFun hoff 1) rfl)
    · exact ih (Nat.le_of_lt hk) p hp

/-- Every store of maxima up to trip `n` writes the rows' largest magnitudes. -/
theorem maxima_pieces (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 cellTable thrTable (harg1.unread X) n).2,
      ∀ x : p.1.shape.Idx, p.2 x = (fun y : S192x128.Idx => rowPeak X (y 1) (y 0)) (p.1.emb x) := by
  induction n with
  | zero => intro p hp; exact absurd hp List.not_mem_nil
  | succ n ih =>
    have hk : n < k0_t1_loop.trips := hn
    intro p hp
    rw [pb_k0_t1_succ 𝒱 c bd i arg1 harg1 arg2 harg2 arg3 harg3 arg4 harg4 arg5 harg5 arg6 harg6 arg7 harg7 cellTable thrTable (harg1.unread X) ⟨n, hk⟩] at hp
    rcases List.mem_append.1 hp with hp | hp
    · rw [trip_stores_maxima] at hp
      obtain rfl := List.mem_singleton.1 hp
      intro x
      have hoff : k0_off2 ⟨n, hk⟩ = ![8 * n, 0] := k0_off2_eq ⟨n, hk⟩
      have hpay : ∀ (x : S8x128.Idx) (y : S192x128.Idx), (y 0).val = 8 * n + (x 0).val → (y 1).val = (x 1).val →
          shapeCast S8x128 (blockMaxima (chunkOf (F := Ideal) arg1 (harg1.unread X) ⟨n, hk⟩)) shapeCasts_S8x128_S8x128 x
            = rowPeak X (y 1) (y 0) := by
        intro x y h0 h1
        rw [shapeCast_self, eq_ix2 x]
        refine (chunkMax_apply arg1 harg1 X ⟨n, hk⟩ (x 0) (x 1) (y 0) h0).trans ?_
        rw [show (y 1 : Fin 128) = x 1 from Fin.ext h1]
      exact hpay x _ (cell_at (congrFun hoff 0) rfl) (cell_at (congrFun hoff 1) (Nat.zero_add _))
    · exact ih (Nat.le_of_lt hk) p hp

end

end Cert.KernelIdeal.Chunk

end
-- ==== Proof.Stored.lean ====
/- What the encoder's body leaves in the two staging buffers of a block of 128 rows. -/
module

public import proofs.«01_k».proof.Proof.Block
public import proofs.«01_k».proof.Proof.Gen.KernelIdeal.Frame

@[expose] public section

set_option maxRecDepth 16384

noncomputable section

namespace Cert.KernelIdeal.Chunk

open Idealize.ShloMosaic Idealize.SL.Sem Cert.KernelIdeal Cert.KernelIdeal.Gen Cert.KernelIdeal.Code
open Idealize.ShloMosaic.ValueIdx

theorem hz2 : (![0, 0] : Fin 2 → Nat) = fun _ => 0 := funext fun a => by fin_cases a <;> rfl

section
variable (c : Dev nD) (i : grid0.Coords) (arg1 : Memref sig .tc .vmem S128x12288 .bf16) (harg1 : arg1.IsWhole) (arg2 : Memref sig .tc .vmem S32x128 .i8) (harg2 : arg2.IsWhole) (arg3 : Memref sig .tc .vmem S32x128 .i8) (harg3 : arg3.IsWhole) (arg4 : Memref sig .tc .vmem S16x128 .f32) (harg4 : arg4.IsWhole) (arg5 : Memref sig .tc .vmem S128x6144 .i8) (harg5 : arg5.IsWhole) (arg6 : Memref sig .tc .vmem S128x192 .f32) (harg6 : arg6.IsWhole) (arg7 : Memref sig .tc .vmem S192x128 .f32) (harg7 : arg7.IsWhole) (X : FVec Ideal S128x12288 .bf16) (S : Vec Ideal S32x128 .i8)

/-- A whole buffer loaded whole is its contents. -/
theorem read_whole {n k : ℕ} {e : EltTy} (arg : Memref sig .tc .vmem (⟨2, ![n, k]⟩ : Shape) e) (harg : arg.IsWhole)
    (h) (v : Vec Ideal (⟨2, ![n, k]⟩ : Shape) e) :
    View.readAt (Elt Ideal) arg.view (Rect.unit (s := (⟨2, ![n, k]⟩ : Shape)) ![0, 0] ![n, k] h).toLoadRect (harg.unread v) = v := by
  funext j
  rw [harg.readAt_unread]
  refine congrArg v (funext fun d => ?_)
  match d with
  | ⟨0, _⟩ => exact Fin.ext (cell_at rfl (Nat.zero_add _))
  | ⟨1, _⟩ => exact Fin.ext (cell_at rfl (Nat.zero_add _))

/-- The codes' staging buffer: the bytes of the block's rows. -/
theorem stored_codes :
    out0_A_4 (F := Ideal) c i arg1 harg1 arg2 harg2 arg3 harg3 arg4 harg4 arg5 harg5 arg6 harg6 arg7 harg7 X cellTable S thrTable
      = fun y => rowByte X (y 0) (y 1) := by
  have hL : ∀ p ∈ (kernelRun0_A (F := Ideal) c i arg1 harg1 arg2 harg2 arg3 harg3 arg4 harg4 arg5 harg5 arg6 harg6 arg7 harg7 X cellTable S thrTable).1,
      ∀ x : p.1.shape.Idx, p.2 x = (fun y : S128x6144.Idx => rowByte X (y 0) (y 1)) (p.1.emb x) := by
    unfold kernelRun0_A
    dsimp only
    rw [read_whole arg2 harg2, read_whole arg4 harg4]
    exact codes_pieces Variants.none c none i arg1 harg1 arg2 harg2 arg3 harg3 arg4 harg4 arg5 harg5 arg6 harg6 arg7 harg7 X _ le_rfl
  unfold out0_A_4
  funext y
  have key := View.canon_apply_of_pieces (Val := Elt Ideal) (fun y : S128x6144.Idx => rowByte X (y 0) (y 1)) _ hL y
    (cover0_A_4 (F := Ideal) c i arg1 harg1 arg2 harg2 arg3 harg3 arg4 harg4 arg5 harg5 arg6 harg6 arg7 harg7 X cellTable S thrTable y)
  exact (congrFun (View.read_writes_junk_eq_canon (Val := Elt Ideal) VO0_4 _) y).trans key

/-- The stores of maxima fill the scratch buffer. -/
theorem cover_scratch (y : S192x128.Idx) :
    ∃ pc ∈ (pb_k0_t1 (F := Ideal) Variants.none c none i arg1 harg1 arg2 harg2 arg3 harg3 arg4 harg4 arg5 harg5 arg6 harg6 arg7 harg7 cellTable thrTable
      (harg1.unread X) (Scf.trips k0_t1_loop.lb k0_t1_loop.ub k0_t1_loop.st)).2, y ∈ pc.1.set :=
  View.cover_of_tiledL (pb_k0_t1 (F := Ideal) Variants.none c none i arg1 harg1 arg2 harg2 arg3 harg3 arg4 harg4 arg5 harg5 arg6 harg6 arg7 harg7 cellTable thrTable
    (harg1.unread X) (Scf.trips k0_t1_loop.lb k0_t1_loop.ub k0_t1_loop.st)).2 S8x128.size (by sl_kernel_rfl) y

/-- The maxima's staging buffer: the largest magnitudes of the block's rows. -/
theorem stored_maxima :
    out0_A_5 (F := Ideal) c i arg1 harg1 arg2 harg2 arg3 harg3 arg4 harg4 arg5 harg5 arg6 harg6 arg7 harg7 X cellTable S thrTable
      = fun y => rowPeak X (y 0) (y 1) := by
  have hpay : ∀ y : S128x192.Idx, k0_pay4 (arg7.view.readCov (pb_k0_t1 (F := Ideal) Variants.none c none i arg1 harg1 arg2 harg2 arg3 harg3 arg4 harg4 arg5 harg5 arg6 harg6 arg7 harg7 cellTable thrTable
        (harg1.unread X) (Scf.trips k0_t1_loop.lb k0_t1_loop.ub k0_t1_loop.st)).2
        (Rect.unit (s := S192x128) ![0, 0] S192x128.size inb_S192x128_S192x128_0_0).toLoadRect) y = rowPeak X (y 0) (y 1) := by
    intro y
    obtain ⟨a, b, rfl⟩ : ∃ (a : Fin 128) (b : Fin 192), y = ix2 a b := ⟨_, _, eq_ix2 y⟩
    unfold k0_pay4
    refine (transpose_apply _ _ _ (ix2 a b : S128x192.Idx) (ix2 b a) ?_).trans ?_
    · intro d
      match d with
      | ⟨0, _⟩ => rfl
      | ⟨1, _⟩ => rfl
    · rw [View.readCov_eq_canon']
      refine (View.canon_apply_of_pieces (fun y : S192x128.Idx => rowPeak X (y 1) (y 0)) _
        (maxima_pieces Variants.none c none i arg1 harg1 arg2 harg2 arg3 harg3 arg4 harg4 arg5 harg5 arg6 harg6 arg7 harg7 X _ le_rfl) _
        (cover_scratch c i arg1 harg1 arg2 harg2 arg3 harg3 arg4 harg4 arg5 harg5 arg6 harg6 arg7 harg7 X _)).trans ?_
      show rowPeak X _ _ = rowPeak X _ _
      exact congrArg₂ (rowPeak X) (Fin.ext (cell_at rfl (Nat.zero_add _))) (Fin.ext (cell_at rfl (Nat.zero_add _)))
  have hL : ∀ p ∈ (kernelRun0_A (F := Ideal) c i arg1 harg1 arg2 harg2 arg3 harg3 arg4 harg4 arg5 harg5 arg6 harg6 arg7 harg7 X cellTable S thrTable).2.1,
      ∀ x : p.1.shape.Idx, p.2 x = (fun y : S128x192.Idx => rowPeak X (y 0) (y 1)) (p.1.emb x) := by
    unfold kernelRun0_A
    dsimp only
    rw [read_whole arg2 harg2, read_whole arg4 harg4]
    intro p hp
    obtain rfl := List.mem_singleton.1 hp
    intro x
    refine (hpay x).trans ?_
    show rowPeak X _ _ = rowPeak X _ _
    exact congrArg₂ (rowPeak X) (Fin.ext (cell_at rfl (Nat.zero_add _)).symm) (Fin.ext (cell_at rfl (Nat.zero_add _)).symm)
  unfold out0_A_5
  funext y
  have key := View.canon_apply_of_pieces (Val := Elt Ideal) (fun y : S128x192.Idx => rowPeak X (y 0) (y 1)) _ hL y
    (cover0_A_5 (F := Ideal) c i arg1 harg1 arg2 harg2 arg3 harg3 arg4 harg4 arg5 harg5 arg6 harg6 arg7 harg7 X cellTable S thrTable y)
  exact (congrFun (View.read_writes_junk_eq_canon (Val := Elt Ideal) VO0_5 _) y).trans key

end

end Cert.KernelIdeal.Chunk

end
-- ==== Proof.Entry.lean ====
/- What the encoder is entered with: the two tables it reads and the values in rows of 12288; and what each of its 16 blocks reads. -/
module

public import proofs.«01_k».proof.Proof.Stored

@[expose] public section

set_option maxRecDepth 16384

noncomputable section

namespace Cert.KernelIdeal.Chunk

open Idealize.ShloMosaic Idealize.ShloMosaic.TcCoe Idealize.SL.Sem Cert.KernelIdeal Cert.KernelIdeal.Gen Cert.KernelIdeal.Code
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The argument in rows of 12288. -/
def rowsOf (x : FVec Ideal S1x2048x12288 .bf16) : FVec Ideal S2048x12288 .bf16 :=
  shapeCast S2048x12288 x shapeCasts_S1x2048x12288_S2048x12288

theorem rowsOf_apply (x : FVec Ideal S1x2048x12288 .bf16) (R : Fin 2048) (q : Fin 12288) :
    rowsOf x (ix2 R q) = x (ix3 (0 : Fin 1) R q) := by
  unfold rowsOf
  refine shapeCast_apply _ _ _ (ix3 (0 : Fin 1) R q) ?_
  rw [Shape.rowMajor_val_three, Shape.rowMajor_val_two]
  show (0 * 2048 + R.val) * 12288 + q.val = R.val * 12288 + q.val
  omega

/-- The values, the cell table and the threshold table when the encoder starts. -/
theorem entry_rows (c : Dev nD) : V1 m ρ c main_v3 = rowsOf (m ((c : Thread nD τ).loc main_arg0)) := by
  show StableHlo.after hostOps0 (W0 m ρ c) (main_v3 : DevRef τ sig) = _
  after_results
  rfl

theorem entry_cells (c : Dev nD) : V1 m ρ c main_v0 = cellTable := by
  show StableHlo.after hostOps0 (W0 m ρ c) (main_v0 : DevRef τ sig) = _
  after_results
  funext j
  refine (broadcastInDim_apply _ _ _ j (ix1 (j 0)) ?_).trans ?_
  · intro a
    match a with
    | ⟨0, _⟩ => rfl
  · exact congrArg lit0 (Fin.ext (Shape.rowMajor_val_one _))

theorem entry_thresholds (c : Dev nD) : V1 m ρ c main_v2 = thrTable := by
  show StableHlo.after hostOps0 (W0 m ρ c) (main_v2 : DevRef τ sig) = _
  after_results
  funext j
  refine (broadcastInDim_apply _ _ _ j (ix1 (j 0)) ?_).trans ?_
  · intro a
    match a with
    | ⟨0, _⟩ => rfl
  · exact congrArg (fun i => Ideal.ofBits .f32 (lit2 i)) (Fin.ext (Shape.rowMajor_val_one _))

/-- A row's largest magnitudes and bytes depend on that row alone. -/
theorem rowPeak_congr {n n' : ℕ} {X : (⟨2, ![n, 12288]⟩ : Shape).Idx → EReal} {Y : (⟨2, ![n', 12288]⟩ : Shape).Idx → EReal}
    {R : Fin n} {R' : Fin n'} (h : ∀ q, X (ix2 R q) = Y (ix2 R' q)) (b : Fin 192) : rowPeak X R b = rowPeak Y R' b := by
  unfold rowPeak
  exact congrArg peak (funext fun p => h _)

theorem rowByte_congr {n n' : ℕ} {X : (⟨2, ![n, 12288]⟩ : Shape).Idx → EReal} {Y : (⟨2, ![n', 12288]⟩ : Shape).Idx → EReal}
    {R : Fin n} {R' : Fin n'} (h : ∀ q, X (ix2 R q) = Y (ix2 R' q)) (C : Fin 6144) : rowByte X R C = rowByte Y R' C := by
  unfold rowByte
  rw [h, h, rowPeak_congr h]

/-- The block indices of the encoder's windows that are read or written, at point `t`. -/
theorem index_0 : ∀ t : Fin cfg0.N, (win0_0.index t 0 = t.val ∧ win0_0.index t 1 = 0) ∧ (win0_1.index t 0 = 0 ∧ win0_1.index t 1 = 0)
    ∧ (win0_3.index t 0 = 0 ∧ win0_3.index t 1 = 0) ∧ (win0_4.index t 0 = t.val ∧ win0_4.index t 1 = 0)
    ∧ (win0_5.index t 0 = t.val ∧ win0_5.index t 1 = 0) := by
  decide +kernel

/-- Where cell `y` of point `t`'s block lies in window 0's array. -/
theorem block_rows (c : Dev nD) (t : Fin cfg0.N) (l : Fin 128) (q : Fin 12288) (R : Fin 2048) (hR : R.val = 128 * t.val + l.val) :
    (iblk0 (V1 m ρ) c 0 t : FVec Ideal S128x12288 .bf16) (ix2 l q) = rowsOf (m ((c : Thread nD τ).loc main_arg0)) (ix2 R q) := by
  rw [← entry_rows m ρ c]
  refine congrArg (V1 m ρ c main_v3) (funext fun d => Fin.ext ?_)
  match d with
  | ⟨0, _⟩ =>
    show win0_0.index t 0 * 128 + 1 * l.val = R.val
    rw [(index_0 t).1.1]; omega
  | ⟨1, _⟩ =>
    show win0_0.index t 1 * 12288 + 1 * q.val = q.val
    rw [(index_0 t).1.2]; omega

theorem block_cells (c : Dev nD) (t : Fin cfg0.N) : (iblk0 (V1 m ρ) c 1 t : Vec Ideal S32x128 .i8) = cellTable := by
  rw [← entry_cells m ρ c]
  funext y
  refine congrArg (V1 m ρ c main_v0) (funext fun d => Fin.ext ?_)
  match d with
  | ⟨0, _⟩ =>
    show win0_1.index t 0 * 32 + 1 * (y 0).val = (y 0).val
    rw [(index_0 t).2.1.1]; omega
  | ⟨1, _⟩ =>
    show win0_1.index t 1 * 128 + 1 * (y 1).val = (y 1).val
    rw [(index_0 t).2.1.2]; omega

theorem block_thresholds (c : Dev nD) (t : Fin cfg0.N) : (iblk0 (V1 m ρ) c 3 t : FVec Ideal S16x128 .f32) = thrTable := by
  rw [← entry_thresholds m ρ c]
  funext y
  refine congrArg (V1 m ρ c main_v2) (funext fun d => Fin.ext ?_)
  match d with
  | ⟨0, _⟩ =>
    show win0_3.index t 0 * 16 + 1 * (y 0).val = (y 0).val
    rw [(index_0 t).2.2.1.1]; omega
  | ⟨1, _⟩ =>
    show win0_3.index t 1 * 128 + 1 * (y 1).val = (y 1).val
    rw [(index_0 t).2.2.1.2]; omega

/-- The packed codes and the blocks' largest magnitudes of all 2048 rows. -/
def codesArr (x : FVec Ideal S1x2048x12288 .bf16) : IVec S2048x6144 8 := fun y => rowByte (rowsOf x) (y 0 : Fin 2048) (y 1 : Fin 6144)
def peakArr (x : FVec Ideal S1x2048x12288 .bf16) : FVec Ideal S2048x192 .f32 := fun y => rowPeak (rowsOf x) (y 0 : Fin 2048) (y 1 : Fin 192)

/-- The largest magnitudes in rows of 256: what the second step is entered with. -/
def peakRows (x : FVec Ideal S1x2048x12288 .bf16) : FVec Ideal S1536x256 .f32 :=
  shapeCast S1536x256 (peakArr x) shapeCasts_S2048x192_S1536x256

/-- What point `t` writes back is block `t` of these. -/
theorem flushed_codes (c : Dev nD) (t : Fin cfg0.N) :
    (dat0 (V1 m ρ) c).flushed 4 t = (win0_4.blk t).view.read (Elt Ideal) (codesArr (m ((c : Thread nD τ).loc main_arg0))) := by
  show (cfg0.win 4).cut (grid0.coords t) ((dat0 (V1 m ρ) c).after 4 t) = _
  rw [after0_4]
  unfold outsAt0
  dsimp only
  rw [block_cells, block_thresholds, stored_codes]
  funext y
  have ht : t.val < 16 := t.isLt
  have hy : (y 0).val < 128 := (y 0).isLt
  have key : rowByte (iblk0 (V1 m ρ) c 0 t : FVec Ideal S128x12288 .bf16) (y 0 : Fin 128) (y 1 : Fin 6144)
      = codesArr (m ((c : Thread nD τ).loc main_arg0)) (ix2 ⟨128 * t.val + (y 0).val, by omega⟩ (y 1 : Fin 6144)) :=
    rowByte_congr (fun q => block_rows m ρ c t (y 0) q _ rfl) _
  refine key.trans (congrArg (codesArr _) (funext fun d => Fin.ext ?_))
  match d with
  | ⟨0, _⟩ =>
    show 128 * t.val + (y 0).val = win0_4.index t 0 * 128 + 1 * (y 0).val
    rw [(index_0 t).2.2.2.1.1]; omega
  | ⟨1, _⟩ =>
    show (y 1).val = win0_4.index t 1 * 6144 + 1 * (y 1).val
    rw [(index_0 t).2.2.2.1.2]; omega

theorem flushed_maxima (c : Dev nD) (t : Fin cfg0.N) :
    (dat0 (V1 m ρ) c).flushed 5 t = (win0_5.blk t).view.read (Elt Ideal) (peakArr (m ((c : Thread nD τ).loc main_arg0))) := by
  show (cfg0.win 5).cut (grid0.coords t) ((dat0 (V1 m ρ) c).after 5 t) = _
  rw [after0_5]
  unfold outsAt0
  dsimp only
  rw [block_cells, block_thresholds, stored_maxima]
  funext y
  have ht : t.val < 16 := t.isLt
  have hy : (y 0).val < 128 := (y 0).isLt
  have key : rowPeak (iblk0 (V1 m ρ) c 0 t : FVec Ideal S128x12288 .bf16) (y 0 : Fin 128) (y 1 : Fin 192)
      = peakArr (m ((c : Thread nD τ).loc main_arg0)) (ix2 ⟨128 * t.val + (y 0).val, by omega⟩ (y 1 : Fin 192)) :=
    rowPeak_congr (fun q => block_rows m ρ c t (y 0) q _ rfl) _
  refine key.trans (congrArg (peakArr _) (funext fun d => Fin.ext ?_))
  match d with
  | ⟨0, _⟩ =>
    show 128 * t.val + (y 0).val = win0_5.index t 0 * 128 + 1 * (y 0).val
    rw [(index_0 t).2.2.2.2.1]; omega
  | ⟨1, _⟩ =>
    show (y 1).val = win0_5.index t 1 * 192 + 1 * (y 1).val
    rw [(index_0 t).2.2.2.2.2]; omega

end Cert.KernelIdeal.Chunk

end
-- ==== Proof.Second.lean ====
/- The second call: the mean, the centred values, one scale a row and the quantized words, read at an index. -/
module

public import proofs.«01_k».proof.Proof.Rows

@[expose] public section

set_option maxRecDepth 16384

noncomputable section

namespace Cert.KernelIdeal.Second

open Idealize.ShloMosaic Idealize.SL.Sem Cert.KernelIdeal Cert.KernelIdeal.Gen
open Idealize.ShloMosaic.ValueIdx
open Cert.KernelIdeal.Chunk (peak)

/-- A reshape permutes the entries, so it keeps their sum. -/
theorem sum_shapeCast {s t : Shape} (x : s.Idx → EReal) (h : s.ShapeCasts t) : ∑ j, shapeCast t x h j = ∑ i, x i :=
  Equiv.sum_comp (Shape.reshapeEquiv h) x

/-- The mean of an array of 393216 values. -/
def meanOf {s : Shape} (A : s.Idx → EReal) : EReal := Ideal.div (∑ i, A i) (Ideal.ofBits .f32 0x48C00000#32)

/-- The scale of a row whose largest magnitude is `a`: `a / 127`, or 1 where `a` is 0. -/
def scaleOf (a : EReal) : EReal :=
  Scalar.select (Ideal.cmp .oeq a (Ideal.ofBits .f32 0x00000000#32)) (Ideal.ofBits .f32 0x3F800000#32)
    (Ideal.div a (Ideal.ofBits .f32 0x42FE0000#32))

/-- A value over its scale, rounded and kept within 127 of zero. -/
def quantOf (x s : EReal) : EReal :=
  min (Ideal.ofBits .f32 0x42FE0000#32) (max (Ideal.ofBits .f32 0xC2FE0000#32) (Ideal.liftRound Ideal.roundHalfEven (Ideal.div x s)))

/-- The scale of row `r` of `A`. -/
def rowScale (A : FVec Ideal S1536x256 .f32) (r : Fin 1536) : EReal :=
  scaleOf (peak fun c : Fin 256 => A (ix2 r c) - meanOf A)

theorem mean_apply (A : FVec Ideal S1536x256 .f32) (j : S1x1.Idx) : k1_pay2 (F := Ideal) A j = meanOf A := by
  unfold k1_pay2 k1_pay1 meanOf
  rw [shapeCast_self]
  refine congrArg (Ideal.div · (Ideal.ofBits .f32 0x48C00000#32)) ?_
  rw [shapeCast_apply _ _ j (ix1 (0 : Fin 1)) (by
    have h0 := idx2_lt0 j
    have h1 := idx2_lt1 j
    rw [Shape.rowMajor_val_one, Shape.rowMajor_val_two]
    show 0 = (j 0).val * 1 + (j 1).val
    omega)]
  refine (Ideal.multiReduction_add_single _ _ _ _ _ _).trans ?_
  refine Eq.trans ?_ ((sum_idx2 A).trans Finset.sum_comm).symm
  refine Finset.sum_congr rfl fun b _ => ?_
  refine (shapeCast_apply _ _ _ (ix1 (b : Fin 256)) ?_).trans ?_
  · rw [Shape.rowMajor_val_one, Shape.rowMajor_val_two]
    show b.val = 0 * 256 + b.val
    omega
  refine (Ideal.multiReduction_add_single _ _ _ _ _ _).trans ?_
  refine Finset.sum_congr rfl fun k _ => congrArg A ?_
  funext d
  match d with
  | ⟨0, _⟩ => rfl
  | ⟨1, _⟩ => rfl

theorem centred_apply (A : FVec Ideal S1536x256 .f32) (r : Fin 1536) (c : Fin 256) :
    k1_pay3 (F := Ideal) A (ix2 r c) = A (ix2 r c) - meanOf A := by
  unfold k1_pay3
  show k1_pay1 (F := Ideal) A (ix2 r c) - broadcastTo S1536x256 (k1_pay2 (F := Ideal) A) broadcasts_S1x1_S1536x256 (ix2 r c) = _
  unfold k1_pay1
  rw [shapeCast_self]
  refine congrArg (A (ix2 r c) - ·) ?_
  refine (broadcastTo_apply _ _ _ (ix2 (0 : Fin 1) (0 : Fin 1)) ?_).trans (mean_apply A _)
  intro d
  match d with
  | ⟨0, _⟩ => rfl
  | ⟨1, _⟩ => rfl

theorem scaleOf_apply {s : Shape} (v : FVec Ideal s .f32) (j : s.Idx) :
    select (cmpf .oeq v (broadcast s (Scalar.ofBits .f32 0x00000000#32))) (broadcast s (Scalar.ofBits (F := Ideal) .f32 0x3F800000#32))
      (divf v (broadcast s (Scalar.ofBits .f32 0x42FE0000#32))) j = scaleOf (v j) := rfl

theorem quantOf_apply {s : Shape} (x v : FVec Ideal s .f32) (j : s.Idx) :
    fptosi 8 (minimumf (broadcast s (Scalar.ofBits .f32 0x42FE0000#32)) (maximumf (broadcast s (Scalar.ofBits .f32 0xC2FE0000#32))
      (roundeven (divf x v)))) j = Ideal.fptosi 8 (quantOf (x j) (v j)) := rfl

theorem scale_apply (A : FVec Ideal S1536x256 .f32) (r : Fin 1536) (u : Fin 1) : k1_pay4 (F := Ideal) A (ix2 r u) = rowScale A r := by
  have hmax : shapeCast S1536x1 (multiReduction .maximumf [1] S1536 (absf (k1_pay3 (F := Ideal) A)) 0xFF800000#32 reduces_S1536x256_S1536 (.inl rfl) rfl)
      shapeCasts_S1536_S1536x1 (ix2 r u) = peak fun c : Fin 256 => A (ix2 r c) - meanOf A := by
    rw [shapeCast_apply _ _ _ (ix1 r) (by
      rw [Shape.rowMajor_val_one, Shape.rowMajor_val_two]
      show r.val = r.val * 1 + u.val
      omega)]
    refine (Ideal.multiReduction_maximumf_single _ _ _ _ _ _).trans ?_
    unfold peak
    refine congrArg (Finset.univ.fold max _) (funext fun k => ?_)
    have e : k1_pay3 (F := Ideal) A (reduces_S1536x256_S1536.lift (ix1 r) k) = A (ix2 r k) - meanOf A := by
      refine (congrArg (k1_pay3 (F := Ideal) A) (funext fun d => ?_)).trans (centred_apply A r k)
      match d with
      | ⟨0, _⟩ => rfl
      | ⟨1, _⟩ => rfl
    show max (k1_pay3 (F := Ideal) A (reduces_S1536x256_S1536.lift (ix1 r) k)) (-(k1_pay3 (F := Ideal) A (reduces_S1536x256_S1536.lift (ix1 r) k))) = _
    rw [e]
  unfold k1_pay4
  exact (scaleOf_apply _ _).trans (congrArg scaleOf hmax)

theorem quant_apply (A : FVec Ideal S1536x256 .f32) (r : Fin 1536) (c : Fin 256) :
    k1_pay5 (F := Ideal) A (ix2 r c) = Ideal.fptosi 8 (quantOf (A (ix2 r c) - meanOf A) (rowScale A r)) := by
  have hs : broadcastTo S1536x256 (k1_pay4 (F := Ideal) A) broadcasts_S1536x1_S1536x256 (ix2 r c) = rowScale A r := by
    refine (broadcastTo_apply _ _ _ (ix2 r (0 : Fin 1)) ?_).trans (scale_apply A r 0)
    intro d
    match d with
    | ⟨0, _⟩ => rfl
    | ⟨1, _⟩ => rfl
  unfold k1_pay5
  exact (quantOf_apply _ _ _).trans (congrArg (Ideal.fptosi 8) (congrArg₂ quantOf (centred_apply A r c) hs))

/-- The literals 127 and -127. -/
theorem ofBits_127 : Ideal.ofBits .f32 0x42FE0000#32 = ((127 : ℝ) : EReal) := by
  simp [Ideal.ofBits, Ideal.ieee]
  rw [← EReal.coe_mul]; norm_num

theorem ofBits_neg127 : Ideal.ofBits .f32 0xC2FE0000#32 = ((-127 : ℝ) : EReal) := by
  simp [Ideal.ofBits, Ideal.ieee]
  rw [← EReal.coe_mul]; norm_num

/-- Within 127 of zero the word of 8 bits is the word of 32 bits, cut to 8. -/
theorem quant_word (x s : EReal) : (Ideal.fptosi 32 (quantOf x s)).setWidth 8 = Ideal.fptosi 8 (quantOf x s) := by
  have hle : quantOf x s ≤ ((127 : ℝ) : EReal) := by
    unfold quantOf; rw [ofBits_127]; exact min_le_left _ _
  have hge : ((-127 : ℝ) : EReal) ≤ quantOf x s := by
    unfold quantOf; rw [ofBits_127, ofBits_neg127]
    exact le_min (by exact_mod_cast (by norm_num : (-127 : ℝ) ≤ 127)) (le_max_left _ _)
  generalize quantOf x s = q at hle hge
  induction q with
  | bot => exact absurd (le_bot_iff.1 hge) (EReal.coe_ne_bot _)
  | top => exact absurd (top_le_iff.1 hle) (EReal.coe_ne_top _)
  | coe q =>
    have h1 : q ≤ 127 := by exact_mod_cast hle
    have h2 : -127 ≤ q := by exact_mod_cast hge
    unfold Ideal.fptosi
    rw [Ideal.toIntClamped_coe, Ideal.toIntClamped_coe]
    have hz : -127 ≤ (if 0 ≤ q then ⌊q⌋ else ⌈q⌉) ∧ (if 0 ≤ q then ⌊q⌋ else ⌈q⌉) ≤ 127 := by
      split
      · exact ⟨Int.le_floor.2 (by exact_mod_cast h2), by exact_mod_cast (Int.floor_le q).trans h1⟩
      · refine ⟨?_, Int.ceil_le.2 (by exact_mod_cast h1)⟩
        have := h2.trans (Int.le_ceil q)
        exact_mod_cast this
    generalize (if 0 ≤ q then ⌊q⌋ else ⌈q⌉) = z at hz
    rw [show max (-((2 ^ (32 - 1) : ℕ) : ℤ)) (min (((2 ^ (32 - 1) : ℕ) : ℤ) - 1) z) = z by
        norm_num; omega,
      show max (-((2 ^ (8 - 1) : ℕ) : ℤ)) (min (((2 ^ (8 - 1) : ℕ) : ℤ) - 1) z) = z by
        norm_num; omega]
    apply BitVec.eq_of_toNat_eq
    simp only [BitVec.toNat_setWidth, BitVec.toNat_ofInt]
    omega

end Cert.KernelIdeal.Second

end
-- ==== Proof.Arrays.lean ====
/- What the kernel's arrays hold: after the encoder, after the second step, and at the end of the run. -/
module

public import proofs.«01_k».proof.Proof.Entry
public import proofs.«01_k».proof.Proof.Second
public import Idealize.ShloMosaic.Lib.Pipeline.ValueKit.Geometry

@[expose] public section

set_option maxRecDepth 16384

noncomputable section

namespace Cert.KernelIdeal.Arrays

open Idealize.ShloMosaic Idealize.ShloMosaic.TcCoe Idealize.SL.Sem Cert.KernelIdeal Cert.KernelIdeal.Gen
open Idealize.ShloMosaic.ValueIdx Idealize.ShloMosaic.StableHlo
open Idealize.ShloMosaic.Pipeline (Dat)
open Cert.KernelIdeal.Chunk (codesArr peakArr peakRows flushed_codes flushed_maxima hz2)

variable (m : (ℓ : Loc nD τ sig) → Buf (Elt Ideal) ℓ) (ρ : Dev nD → PrngReg)

/-! ## The encoder -/

/-- The 16 blocks cover the packed codes: after the encoder their array holds `codesArr`. -/
theorem codes_array (c : Dev nD) : (dat0 (V1 m ρ) c).arrAt 4 cfg0.N = codesArr (m ((c : Thread nD τ).loc main_arg0)) :=
  (dat0 (V1 m ρ) c).arrAt_eq_of_cover 4 (codesArr (m ((c : Thread nD τ).loc main_arg0))) (fun t _ => flushed_codes m ρ c t)
    ((by decide +kernel : (cfg0.win 4).Covers).cover _ (Memref.isWhole_whole _))

/-- Likewise the largest magnitudes: their array holds `peakArr`. -/
theorem peak_array (c : Dev nD) : (dat0 (V1 m ρ) c).arrAt 5 cfg0.N = peakArr (m ((c : Thread nD τ).loc main_arg0)) :=
  (dat0 (V1 m ρ) c).arrAt_eq_of_cover 5 (peakArr (m ((c : Thread nD τ).loc main_arg0))) (fun t _ => flushed_maxima m ρ c t)
    ((by decide +kernel : (cfg0.win 5).Covers).cover _ (Memref.isWhole_whole _))

theorem W2_codes (c : Dev nD) : W2 m ρ c (main_v4_0 : DevRef τ sig) = codesArr (m ((c : Thread nD τ).loc main_arg0)) :=
  (W2_arr m ρ c 4).trans (codes_array m ρ c)

theorem W2_peak (c : Dev nD) : W2 m ρ c (main_v4_1 : DevRef τ sig) = peakArr (m ((c : Thread nD τ).loc main_arg0)) :=
  (W2_arr m ρ c 5).trans (peak_array m ρ c)

/-! ## The second step -/

/-- The second step is entered with the largest magnitudes in rows of 256. -/
theorem W3_rows (c : Dev nD) : W3 m ρ c (main_v5 : DevRef τ sig) = peakRows (m ((c : Thread nD τ).loc main_arg0)) := by
  have h : W3 m ρ c (main_v5 : DevRef τ sig) = shapeCast S1536x256 (W2 m ρ c (main_v4_1 : DevRef τ sig)) shapeCasts_S2048x192_S1536x256 := by
    show StableHlo.after hostOps1 (W2 m ρ c) (main_v5 : DevRef τ sig) = _
    after_results
    rfl
  rw [h, W2_peak]
  rfl

/-- Its one point reads the whole array. -/
theorem block_rows1 (c : Dev nD) (t : Fin cfg1.N) :
    (iblk1 (V3 m ρ) c 0 t : FVec Ideal S1536x256 .f32) = peakRows (m ((c : Thread nD τ).loc main_arg0)) := by
  rw [← W3_rows m ρ c]
  funext y
  refine congrArg (V3 m ρ c main_v5) (funext fun d => Fin.ext ?_)
  match d with
  | ⟨0, _⟩ => show 0 * 1536 + 1 * (y 0).val = (y 0).val; omega
  | ⟨1, _⟩ => show 0 * 256 + 1 * (y 1).val = (y 1).val; omega

theorem flushed_quants (c : Dev nD) (t : Fin cfg1.N) :
    (dat1 (V3 m ρ) c).flushed 1 t = (win1_1.blk t).view.read (Elt Ideal) (k1_pay5 (F := Ideal) (peakRows (m ((c : Thread nD τ).loc main_arg0)))) := by
  show (cfg1.win 1).cut (grid1.coords t) ((dat1 (V3 m ρ) c).after 1 t) = _
  rw [after1_1, block_rows1]
  unfold out1_1
  rw [View.canon_unit_zero hz2, View.ld_unit_zero hz2]
  generalize k1_pay5 (F := Ideal) (peakRows (m ((c : Thread nD τ).loc main_arg0))) = G
  funext y
  refine congrArg G (funext fun d => Fin.ext ?_)
  match d with
  | ⟨0, _⟩ => show (y 0).val = 0 * 1536 + 1 * (y 0).val; omega
  | ⟨1, _⟩ => show (y 1).val = 0 * 256 + 1 * (y 1).val; omega

theorem flushed_scales (c : Dev nD) (t : Fin cfg1.N) :
    (dat1 (V3 m ρ) c).flushed 2 t = (win1_2.blk t).view.read (Elt Ideal) (k1_pay4 (F := Ideal) (peakRows (m ((c : Thread nD τ).loc main_arg0)))) := by
  show (cfg1.win 2).cut (grid1.coords t) ((dat1 (V3 m ρ) c).after 2 t) = _
  rw [after1_2, block_rows1]
  unfold out1_2
  rw [View.canon_unit_zero hz2, View.ld_unit_zero hz2]
  generalize k1_pay4 (F := Ideal) (peakRows (m ((c : Thread nD τ).loc main_arg0))) = G
  funext y
  refine congrArg G (funext fun d => Fin.ext ?_)
  match d with
  | ⟨0, _⟩ => show (y 0).val = 0 * 1536 + 1 * (y 0).val; omega
  | ⟨1, _⟩ => show (y 1).val = 0 * 1 + 1 * (y 1).val; omega

theorem flushed_mean (c : Dev nD) (t : Fin cfg1.N) :
    (dat1 (V3 m ρ) c).flushed 3 t = (win1_3.blk t).view.read (Elt Ideal) (k1_pay2 (F := Ideal) (peakRows (m ((c : Thread nD τ).loc main_arg0)))) := by
  show (cfg1.win 3).cut (grid1.coords t) ((dat1 (V3 m ρ) c).after 3 t) = _
  rw [after1_3, block_rows1]
  unfold out1_3
  rw [View.canon_unit_zero hz2, View.ld_unit_zero hz2]
  generalize k1_pay2 (F := Ideal) (peakRows (m ((c : Thread nD τ).loc main_arg0))) = G
  funext y
  refine congrArg G (funext fun d => Fin.ext ?_)
  match d with
  | ⟨0, _⟩ => show (y 0).val = 0 * 1 + 1 * (y 0).val; omega
  | ⟨1, _⟩ => show (y 1).val = 0 * 1 + 1 * (y 1).val; omega

theorem W4_quants (c : Dev nD) :
    W4 m ρ c (main_v6_0 : DevRef τ sig) = k1_pay5 (F := Ideal) (peakRows (m ((c : Thread nD τ).loc main_arg0))) :=
  (W4_arr m ρ c 1).trans ((dat1 (V3 m ρ) c).arrAt_eq_of_cover 1 (k1_pay5 (F := Ideal) (peakRows (m ((c : Thread nD τ).loc main_arg0))))
    (fun t _ => flushed_quants m ρ c t) ((by decide +kernel : (cfg1.win 1).Covers).cover _ (Memref.isWhole_whole _)))

theorem W4_scales (c : Dev nD) :
    W4 m ρ c (main_v6_1 : DevRef τ sig) = k1_pay4 (F := Ideal) (peakRows (m ((c : Thread nD τ).loc main_arg0))) :=
  (W4_arr m ρ c 2).trans ((dat1 (V3 m ρ) c).arrAt_eq_of_cover 2 (k1_pay4 (F := Ideal) (peakRows (m ((c : Thread nD τ).loc main_arg0))))
    (fun t _ => flushed_scales m ρ c t) ((by decide +kernel : (cfg1.win 2).Covers).cover _ (Memref.isWhole_whole _)))

theorem W4_mean (c : Dev nD) :
    W4 m ρ c (main_v6_2 : DevRef τ sig) = k1_pay2 (F := Ideal) (peakRows (m ((c : Thread nD τ).loc main_arg0))) :=
  (W4_arr m ρ c 3).trans ((dat1 (V3 m ρ) c).arrAt_eq_of_cover 3 (k1_pay2 (F := Ideal) (peakRows (m ((c : Thread nD τ).loc main_arg0))))
    (fun t _ => flushed_mean m ρ c t) ((by decide +kernel : (cfg1.win 3).Covers).cover _ (Memref.isWhole_whole _)))

theorem W4_codes (c : Dev nD) : W4 m ρ c (main_v4_0 : DevRef τ sig) = codesArr (m ((c : Thread nD τ).loc main_arg0)) :=
  (W4_of m ρ c main_v4_0 (by decide)).trans ((W3_of m ρ c main_v4_0 (by decide)).trans (W2_codes m ρ c))

theorem W4_peak (c : Dev nD) : W4 m ρ c (main_v4_1 : DevRef τ sig) = peakArr (m ((c : Thread nD τ).loc main_arg0)) :=
  (W4_of m ρ c main_v4_1 (by decide)).trans ((W3_of m ρ c main_v4_1 (by decide)).trans (W2_peak m ρ c))

/-! ## The end of the run -/

theorem end_codes (c : Dev nD) : W5 m ρ c (main_v7 : DevRef τ sig)
    = shapeCast S1x2048x6144 (codesArr (m ((c : Thread nD τ).loc main_arg0))) shapeCasts_S2048x6144_S1x2048x6144 := by
  have h : W5 m ρ c (main_v7 : DevRef τ sig) = shapeCast S1x2048x6144 (W4 m ρ c (main_v4_0 : DevRef τ sig)) shapeCasts_S2048x6144_S1x2048x6144 := by
    show StableHlo.after hostOps2 (W4 m ρ c) (main_v7 : DevRef τ sig) = _
    after_results
    rfl
  rw [h, W4_codes]

theorem end_peak (c : Dev nD) : W5 m ρ c (main_v8 : DevRef τ sig)
    = shapeCast S1x2048x192 (peakArr (m ((c : Thread nD τ).loc main_arg0))) shapeCasts_S2048x192_S1x2048x192 := by
  have h : W5 m ρ c (main_v8 : DevRef τ sig) = shapeCast S1x2048x192 (W4 m ρ c (main_v4_1 : DevRef τ sig)) shapeCasts_S2048x192_S1x2048x192 := by
    show StableHlo.after hostOps2 (W4 m ρ c) (main_v8 : DevRef τ sig) = _
    after_results
    rfl
  rw [h, W4_peak]

theorem end_quants (c : Dev nD) : W5 m ρ c (main_v6_0 : DevRef τ sig)
    = k1_pay5 (F := Ideal) (peakRows (m ((c : Thread nD τ).loc main_arg0))) :=
  (W5_of m ρ c main_v6_0 (by decide)).trans (W4_quants m ρ c)

theorem end_scales (c : Dev nD) : W5 m ρ c (main_v9 : DevRef τ sig)
    = shapeCast S1536 (k1_pay4 (F := Ideal) (peakRows (m ((c : Thread nD τ).loc main_arg0)))) shapeCasts_S1536x1_S1536 := by
  have h : W5 m ρ c (main_v9 : DevRef τ sig) = shapeCast S1536 (W4 m ρ c (main_v6_1 : DevRef τ sig)) shapeCasts_S1536x1_S1536 := by
    show StableHlo.after hostOps2 (W4 m ρ c) (main_v9 : DevRef τ sig) = _
    after_results
    rfl
  rw [h, W4_scales]

theorem end_mean (c : Dev nD) : W5 m ρ c (main_v10 : DevRef τ sig)
    = shapeCast S_ (k1_pay2 (F := Ideal) (peakRows (m ((c : Thread nD τ).loc main_arg0)))) shapeCasts_S1x1_S_ := by
  have h : W5 m ρ c (main_v10 : DevRef τ sig) = shapeCast S_ (W4 m ρ c (main_v6_2 : DevRef τ sig)) shapeCasts_S1x1_S_ := by
    show StableHlo.after hostOps2 (W4 m ρ c) (main_v10 : DevRef τ sig) = _
    after_results
    rfl
  rw [h, W4_mean]

end Cert.KernelIdeal.Arrays

end
-- ==== Proof.Named.lean ====
/- The reference: the values its run computes, by name. -/
module

public import proofs.«01_k».proof.Proof.Gen.ReferenceIdeal.Run

@[expose] public section

set_option maxRecDepth 16384

noncomputable section

namespace Cert.ReferenceIdeal.Named

open Idealize.ShloMosaic Idealize.ShloMosaic.TcCoe Idealize.SL.Sem Cert.ReferenceIdeal Cert.ReferenceIdeal.Gen

/-! ## The values -/

variable {F : FTy → Type} [FloatOps F]

section
variable (x : FVec F S1x2048x12288 .bf16)

/-- The values in blocks of 64. -/
def blocks : FVec F S1x2048x192x64 .f32 :=
  shapeCast S1x2048x192x64 (extf .f32 x bitsLt_bf16_f32) shapeCasts_S1x2048x12288_S1x2048x192x64

/-- Each block's largest magnitude. -/
def absmax : FVec F S1x2048x192 .f32 :=
  Host.reduce FloatOps.maximumf (Host.absf (blocks x)) (constant S_ .f32 0xFF800000#32) reducesTo_S1x2048x192x64_S1x2048x192_d3 h_S_

/-- The values times their block's reciprocal. -/
def scaled : FVec F S1x2048x192x64 .f32 :=
  mulf (blocks x) (broadcastInDim S1x2048x192x64 ![0, 1, 2, 3] bcast_S1x2048x192x1_S1x2048x192x64_0_1_2_3
    (broadcastInDim S1x2048x192x1 ![0, 1, 2] bcast_S1x2048x192_S1x2048x192x1_0_1_2
      (Host.divf (broadcastInDim S1x2048x192 ![] bcast_S_S1x2048x192 (constant S_ .f32 0x3F800000#32))
        (select (cmpf .oeq (absmax x) (broadcastInDim S1x2048x192 ![] bcast_S_S1x2048x192 (constant S_ .f32 0x00000000#32)))
          (broadcastInDim S1x2048x192 ![] bcast_S_S1x2048x192 (constant S_ .f32 0x3F800000#32)) (absmax x)))))

/-- Whether each value passes the threshold of bits `b`. -/
def passed (b : BitVec 32) : IVec S1x2048x192x64 32 :=
  extui 32 (cmpf .ogt (scaled x) (broadcastInDim S1x2048x192x64 ![] bcast_S_S1x2048x192x64 (constant S_ .f32 b))) natLt_1_32

/-- The codes: how many of the thresholds each value passes. -/
def codes : IVec S1x2048x192x64 32 :=
  [0xBF591CD8#32, 0xBF1C5270#32, 0xBEEB8480#32, 0xBEADEA76#32, 0xBE703CEC#32, 0xBE0D38BC#32, 0xBD3A7871#32, 0x3D22FAFF#32,
    0x3DF64862#32, 0x3E5067E0#32, 0x3E9582D4#32, 0x3EC753F9#32, 0x3F006D04#32, 0x3F248DAF#32, 0x3F5C89DA#32].foldl
    (fun a b => addi a (passed x b)) (broadcastInDim S1x2048x192x64 ![] bcast_S_S1x2048x192x64 (constantI S_ 32 0#32))

/-- Two codes a byte. -/
def packed : IVec S1x2048x6144 8 :=
  trunci 8 (ori (Host.shli (Host.slice S1x2048x6144 ![0, 0, 0] ![1, 1, 2]
      (shapeCast S1x2048x12288 (codes x) shapeCasts_S1x2048x192x64_S1x2048x12288) slicesBy_S1x2048x12288_S1x2048x6144_0s1_0s1_0s2)
      (broadcastInDim S1x2048x6144 ![] bcast_S_S1x2048x6144 (constantI S_ 32 4#32)))
    (Host.slice S1x2048x6144 ![0, 0, 1] ![1, 1, 2]
      (shapeCast S1x2048x12288 (codes x) shapeCasts_S1x2048x192x64_S1x2048x12288) slicesBy_S1x2048x12288_S1x2048x6144_0s1_0s1_1s2)) natLt_8_32

/-- The mean of the largest magnitudes. -/
def offset : FVec F S_ .f32 :=
  Host.divf (Host.reduceAdd (absmax x) (constant S_ .f32 0x00000000#32) reducesTo_S1x2048x192_S_d0_1_2 h_S_) (constant S_ .f32 0x48C00000#32)

/-- The largest magnitudes less their mean, in rows of 256. -/
def centred : FVec F S1536x256 .f32 :=
  shapeCast S1536x256 (subf (absmax x) (broadcastInDim S1x2048x192 ![] bcast_S_S1x2048x192 (offset x))) shapeCasts_S1x2048x192_S1536x256

/-- Each row's largest magnitude. -/
def rowMax : FVec F S1536 .f32 :=
  Host.reduce FloatOps.maximumf (Host.absf (centred x)) (constant S_ .f32 0xFF800000#32) reducesTo_S1536x256_S1536_d1 h_S_

/-- Each row's scale. -/
def scales : FVec F S1536 .f32 :=
  select (cmpf .oeq (rowMax x) (broadcastInDim S1536 ![] bcast_S_S1536 (constant S_ .f32 0x00000000#32)))
    (broadcastInDim S1536 ![] bcast_S_S1536 (constant S_ .f32 0x3F800000#32))
    (Host.divf (rowMax x) (broadcastInDim S1536 ![] bcast_S_S1536 (constant S_ .f32 0x42FE0000#32)))

/-- The quantized largest magnitudes. -/
def quants : IVec S1536x256 8 :=
  trunci 8 (fptosi 32 (minimumf (broadcastInDim S1536x256 ![] bcast_S_S1536x256 (constant S_ .f32 0x42FE0000#32))
    (maximumf (broadcastInDim S1536x256 ![] bcast_S_S1536x256 (constant S_ .f32 0xC2FE0000#32))
      (Host.roundeven (Host.divf (centred x) (broadcastInDim S1536x256 ![0, 1] bcast_S1536x1_S1536x256_0_1
        (broadcastInDim S1536x1 ![0] bcast_S1536_S1536x1_0 (scales x)))))))) natLt_8_32

end

/-! ## The run -/

variable (m : (ℓ : Loc nD τ sig) → Buf (Elt F) ℓ) (ρ : Dev nD → PrngReg)

theorem packed_result (c : Dev nD) : Cert.ReferenceIdeal.Value.res_main_v80_0 m c = packed (m ((c.tc : Thread nD τ).loc main_arg0)) := by
  unfold Cert.ReferenceIdeal.Value.res_main_v80_0 packed codes passed scaled absmax blocks
  rfl

/-- Every run of the reference ends with its five results holding the values named here, its argument unchanged. -/
theorem run_named :
    θ_run defs (onTc (τ := τ) (main (F := F))) ⟨m, fun _ => 0, ρ⟩ fun r => ∀ c : Dev nD,
      r.2.mem ((c.tc : Thread nD τ).loc main_v80_0) = packed (m ((c.tc : Thread nD τ).loc main_arg0))
      ∧ r.2.mem ((c.tc : Thread nD τ).loc main_v80_1) = absmax (m ((c.tc : Thread nD τ).loc main_arg0))
      ∧ r.2.mem ((c.tc : Thread nD τ).loc main_v100_0) = quants (m ((c.tc : Thread nD τ).loc main_arg0))
      ∧ r.2.mem ((c.tc : Thread nD τ).loc main_v100_1) = scales (m ((c.tc : Thread nD τ).loc main_arg0))
      ∧ r.2.mem ((c.tc : Thread nD τ).loc main_v82) = offset (m ((c.tc : Thread nD τ).loc main_arg0))
      ∧ r.2.mem ((c.tc : Thread nD τ).loc main_arg0) = m ((c.tc : Thread nD τ).loc main_arg0) :=
  by
  refine (θ_run defs _ _).mono (fun _ h c => ?_) (Cert.ReferenceIdeal.Value.run (F := F) m ρ)
  obtain ⟨h0, h1, h2, h3, h4, h5⟩ := h c
  refine ⟨h0.trans (packed_result m c), h1.trans ?_, h2.trans ?_, h3.trans ?_, h4.trans ?_, h5⟩ <;> clear h0 h1 h2 h3 h4 h5
  · unfold absmax blocks; dsimp only [id]
  · unfold quants scales rowMax centred offset absmax blocks; dsimp only [id]
  · unfold scales rowMax centred offset absmax blocks; dsimp only [id]
  · unfold offset absmax blocks; dsimp only [id]

end Cert.ReferenceIdeal.Named

end
-- ==== Proof.Codes.lean ====
/- The reference: each block's largest magnitude and the packed codes, read at an index. -/
module

public import proofs.«01_k».proof.Proof.Named
public import proofs.«01_k».proof.Proof.Entry

@[expose] public section

set_option maxRecDepth 16384

noncomputable section

namespace Cert.ReferenceIdeal.Named

open Idealize.ShloMosaic Idealize.ShloMosaic.TcCoe Idealize.SL.Sem Cert.ReferenceIdeal Cert.ReferenceIdeal.Gen
open Idealize.ShloMosaic.ValueIdx
open Cert.KernelIdeal (lit2)
open Cert.KernelIdeal.Code (thr count count_lt ofBits_thr divisor ratio mul_div_divisor)
open Cert.KernelIdeal.Chunk (peak le_peak rowPeak rowByte rowsOf rowsOf_apply peakArr codesArr)

/-! ## Operations read at an index, at any shape -/

section
variable {s t u : Shape}

theorem mulf_read (v w : FVec Ideal s .f32) (j : s.Idx) : mulf v w j = v j * w j := rfl
theorem subf_read (v w : FVec Ideal s .f32) (j : s.Idx) : subf v w j = v j - w j := rfl

theorem splat_read (w : BitVec 32) {dims : Fin u.rank → Fin t.rank} (h : u.BroadcastsInDim t dims) (j : t.Idx) :
    broadcastInDim t dims h (constant (F := Ideal) u .f32 w) j = Ideal.ofBits .f32 w := rfl

theorem reciprocal_read (o z v : FVec Ideal s .f32) (j : s.Idx) :
    Host.divf o (select (cmpf .oeq v z) o v) j = Ideal.div (o j) (Scalar.select (Ideal.cmp .oeq (v j) (z j)) (o j) (v j)) := rfl

theorem passes_read (v z : FVec Ideal s .f32) (h : 1 < 32) (j : s.Idx) :
    extui 32 (cmpf .ogt v z) h j = (BitVec.ofBool (decide (z j < v j))).setWidth 32 := rfl

/-- The largest magnitude along one axis. -/
theorem peak_read {a : Fin s.rank} (h : s.Reduces [a] t) (v : FVec Ideal s .f32) (h' : s.ReducesTo [a] t) (hu : 0 < u.numel) (j : t.Idx) :
    Host.reduce FloatOps.maximumf (Host.absf v) (constant u .f32 0xFF800000#32) h' hu j = peak fun k => v (h.lift j k) :=
  Host.reduce_eq_fold_single (FloatOps.maximumf (F := Ideal) (φ := .f32)) (Host.absf v) (constant u .f32 0xFF800000#32) h' h hu j

/-- Two reshapes are one. -/
theorem shapeCast_trans {α : Type} (v : s.Idx → α) (h : s.ShapeCasts t) (h' : t.ShapeCasts u) (h'' : s.ShapeCasts u) :
    shapeCast u (shapeCast t v h) h' = shapeCast u v h'' :=
  funext fun i => congrArg v (Shape.reshapeEquiv_reshapeEquiv h h' i)

/-- A left fold of additions, read at an index. -/
theorem foldl_addi {β : Type} (f : β → IVec s 32) (j : s.Idx) (l : List β) :
    ∀ a : IVec s 32, l.foldl (fun a b => addi a (f b)) a j = l.foldl (fun a b => a + f b j) (a j) := by
  induction l with
  | nil => exact fun a => rfl
  | cons b l ih => exact fun a => ih (addi a (f b))

theorem pack_read (v w k : IVec s 32) (h : 8 < 32) (j : s.Idx) :
    trunci 8 (ori (Host.shli v k) w) h j = (IntOp.shli .host (v j) (k j) ||| w j).setWidth 8 := rfl

end

/-- A left fold adding one where a test holds counts the places where it holds. -/
theorem foldl_count {β : Type} (p : β → Bool) (l : List β) :
    ∀ a : BitVec 32, l.foldl (fun a b => a + (BitVec.ofBool (p b)).setWidth 32) a = a + BitVec.ofNat 32 (l.countP p) := by
  induction l with
  | nil => intro a; simp
  | cons b l ih =>
    intro a
    rw [List.foldl_cons, ih, List.countP_cons, BitVec.add_assoc]
    refine congrArg (a + ·) ?_
    cases h : p b
    · simp
    · rw [if_pos rfl, BitVec.ofNat_add, BitVec.add_comm]
      rfl

theorem divisor_select (a : EReal) :
    Scalar.select (Ideal.cmp .oeq a (Ideal.ofBits .f32 0x00000000#32)) (Ideal.ofBits .f32 0x3F800000#32) a = divisor a := by
  rw [Ideal.ofBits_zero_f32, Ideal.ofBits_one_f32]
  unfold divisor Ideal.cmp Scalar.select
  by_cases h : a = 0 <;> simp [h]

/-- Two four-bit codes in a byte. -/
theorem pack_word : ∀ e o : Fin 16,
    (IntOp.shli .host (BitVec.ofNat 32 e.val) 4#32 ||| BitVec.ofNat 32 o.val).setWidth 8 = BitVec.ofNat 8 (16 * e.val + o.val) := by
  decide

/-- The reference's thresholds are the kernel's first fifteen. -/
theorem thresholds_eq : ([0xBF591CD8#32, 0xBF1C5270#32, 0xBEEB8480#32, 0xBEADEA76#32, 0xBE703CEC#32, 0xBE0D38BC#32, 0xBD3A7871#32, 0x3D22FAFF#32,
    0x3DF64862#32, 0x3E5067E0#32, 0x3E9582D4#32, 0x3EC753F9#32, 0x3F006D04#32, 0x3F248DAF#32, 0x3F5C89DA#32] : List (BitVec 32))
      = (List.finRange 15).map fun i => lit2 i.castSucc := by
  decide +kernel

/-- Counting them over the list is `count`. -/
theorem count_thresholds (q : ℝ) : ((List.finRange 15).map fun i => lit2 i.castSucc).countP (fun w => decide (Ideal.ofBits .f32 w < ((q : ℝ) : EReal))) = count q := by
  rw [List.countP_map]
  unfold Cert.KernelIdeal.Code.count
  refine List.countP_congr fun i _ => ?_
  show decide (Ideal.ofBits .f32 (lit2 i.castSucc) < _) = true ↔ _
  rw [ofBits_thr]
  simp only [EReal.coe_lt_coe_iff]

/-! ## The first step's values -/

variable (x : FVec Ideal S1x2048x12288 .bf16)

theorem blocks_apply (R : Fin 2048) (b : Fin 192) (p : Fin 64) (q : Fin 12288) (hq : q.val = 64 * b.val + p.val) :
    blocks x (ix4 (0 : Fin 1) R b p) = rowsOf x (ix2 R q) := by
  rw [rowsOf_apply]
  refine (shapeCast_apply (extf .f32 x bitsLt_bf16_f32) shapeCasts_S1x2048x12288_S1x2048x192x64 _ (ix3 (0 : Fin 1) R q) ?_).trans rfl
  rw [Shape.rowMajor_val_three, Shape.rowMajor_val_four]
  show (0 * 2048 + R.val) * 12288 + q.val = ((0 * 2048 + R.val) * 192 + b.val) * 64 + p.val
  omega

/-- Each block's largest magnitude. -/
theorem absmax_apply (R : Fin 2048) (b : Fin 192) : absmax x (ix3 (0 : Fin 1) R b) = rowPeak (rowsOf x) R b := by
  have h : S1x2048x192x64.Reduces [3] S1x2048x192 := by decide
  refine (peak_read h (blocks x) reducesTo_S1x2048x192x64_S1x2048x192_d3 h_S_ (ix3 (0 : Fin 1) R b)).trans ?_
  unfold rowPeak
  refine congrArg peak (funext fun (p : Fin 64) => ?_)
  refine (congrArg (blocks x) (funext fun d => ?_)).trans (blocks_apply x R b p _ rfl)
  match d with
  | ⟨0, _⟩ => rfl
  | ⟨1, _⟩ => rfl
  | ⟨2, _⟩ => rfl
  | ⟨3, _⟩ => rfl

theorem absmax_eq (h : Cert.KernelIdeal.S2048x192.ShapeCasts S1x2048x192) : absmax x = shapeCast S1x2048x192 (peakArr x) h := by
  funext j
  obtain ⟨u, R, b, rfl⟩ : ∃ (u : Fin 1) (R : Fin 2048) (b : Fin 192), j = ix3 u R b := ⟨_, _, _, eq_ix3 j⟩
  obtain rfl : u = 0 := Subsingleton.elim _ _
  refine (absmax_apply x R b).trans (Eq.symm ((shapeCast_apply (peakArr x) h (ix3 (0 : Fin 1) R b) (ix2 R b) ?_).trans rfl))
  rw [Shape.rowMajor_val_three, Shape.rowMajor_val_two]
  show R.val * 192 + b.val = (0 * 2048 + R.val) * 192 + b.val
  omega

/-- A value times its block's reciprocal is the real `ratio`. -/
theorem scaled_apply (R : Fin 2048) (b : Fin 192) (p : Fin 64) (q : Fin 12288) (hq : q.val = 64 * b.val + p.val) :
    scaled x (ix4 (0 : Fin 1) R b p) = ((ratio (rowsOf x (ix2 R q)) (rowPeak (rowsOf x) R b) : ℝ) : EReal) := by
  have hb : -rowPeak (rowsOf x) R b ≤ rowsOf x (ix2 R ⟨64 * b.val + p.val, by omega⟩)
      ∧ rowsOf x (ix2 R ⟨64 * b.val + p.val, by omega⟩) ≤ rowPeak (rowsOf x) R b :=
    le_peak (fun p : Fin 64 => rowsOf x (ix2 R ⟨64 * b.val + p.val, by omega⟩)) p
  rw [show (⟨64 * b.val + p.val, by omega⟩ : Fin 12288) = q from Fin.ext hq.symm] at hb
  have h := mul_div_divisor hb.1 hb.2 1
  rw [one_mul] at h
  refine Eq.trans ?_ h
  unfold scaled
  rw [mulf_read, blocks_apply x R b p q hq]
  refine congrArg (_ * ·) ?_
  refine (broadcastInDim_apply _ _ _ _ (ix4 (0 : Fin 1) R b (0 : Fin 1)) (fun a => by match a with
    | ⟨0, _⟩ => rfl
    | ⟨1, _⟩ => rfl
    | ⟨2, _⟩ => rfl
    | ⟨3, _⟩ => rfl)).trans ?_
  refine (broadcastInDim_apply _ _ _ _ (ix3 (0 : Fin 1) R b) (fun a => by match a with
    | ⟨0, _⟩ => rfl
    | ⟨1, _⟩ => rfl
    | ⟨2, _⟩ => rfl)).trans ?_
  rw [reciprocal_read, splat_read, splat_read, divisor_select, absmax_apply, Ideal.ofBits_one_f32]
  rfl

/-- The code of a value is the number of thresholds its ratio passes. -/
theorem codes_apply (R : Fin 2048) (b : Fin 192) (p : Fin 64) (q : Fin 12288) (hq : q.val = 64 * b.val + p.val) :
    codes x (ix4 (0 : Fin 1) R b p) = BitVec.ofNat 32 (count (ratio (rowsOf x (ix2 R q)) (rowPeak (rowsOf x) R b))) := by
  unfold codes
  rw [foldl_addi (passed x), thresholds_eq, ← count_thresholds]
  have hp : ∀ w, passed x w (ix4 (0 : Fin 1) R b p)
      = (BitVec.ofBool (decide (Ideal.ofBits .f32 w < ((ratio (rowsOf x (ix2 R q)) (rowPeak (rowsOf x) R b) : ℝ) : EReal)))).setWidth 32 := by
    intro w
    unfold passed
    rw [passes_read, splat_read, scaled_apply x R b p q hq]
  simp only [hp]
  exact (foldl_count _ _ _).trans (BitVec.zero_add _)

/-- The codes in rows of 12288. -/
theorem codes_row (R : Fin 2048) (q : Fin 12288) :
    shapeCast S1x2048x12288 (codes x) shapeCasts_S1x2048x192x64_S1x2048x12288 (ix3 (0 : Fin 1) R q)
      = BitVec.ofNat 32 (count (ratio (rowsOf x (ix2 R q)) (rowPeak (rowsOf x) R ⟨q.val / 64, by omega⟩))) := by
  rw [← codes_apply x R ⟨q.val / 64, by omega⟩ ⟨q.val % 64, by omega⟩ q (by show q.val = 64 * (q.val / 64) + q.val % 64; omega)]
  refine shapeCast_apply _ _ _ _ ?_
  rw [Shape.rowMajor_val_three, Shape.rowMajor_val_four]
  show ((0 * 2048 + R.val) * 192 + q.val / 64) * 64 + q.val % 64 = (0 * 2048 + R.val) * 12288 + q.val
  omega

/-- The packed bytes. -/
theorem packed_apply (R : Fin 2048) (C : Fin 6144) : packed x (ix3 (0 : Fin 1) R C) = rowByte (rowsOf x) R C := by
  have he := codes_row x R ⟨2 * C.val, by omega⟩
  have ho := codes_row x R ⟨2 * C.val + 1, by omega⟩
  have e1 : (⟨2 * C.val / 64, by omega⟩ : Fin 192) = ⟨C.val / 32, by omega⟩ := Fin.ext (by show 2 * C.val / 64 = C.val / 32; omega)
  have e2 : (⟨(2 * C.val + 1) / 64, by omega⟩ : Fin 192) = ⟨C.val / 32, by omega⟩ := Fin.ext (by show (2 * C.val + 1) / 64 = C.val / 32; omega)
  simp only [e1] at he
  simp only [e2] at ho
  unfold packed
  rw [pack_read]
  have ie : Host.slice S1x2048x6144 ![0, 0, 0] ![1, 1, 2] (shapeCast S1x2048x12288 (codes x) shapeCasts_S1x2048x192x64_S1x2048x12288)
      slicesBy_S1x2048x12288_S1x2048x6144_0s1_0s1_0s2 (ix3 (0 : Fin 1) R C) = _ := Eq.trans (congrArg (shapeCast S1x2048x12288 (codes x) _) (funext fun d => by
    match d with
    | ⟨0, _⟩ => rfl
    | ⟨1, _⟩ => exact Fin.ext (by show 0 + 1 * R.val = R.val; omega)
    | ⟨2, _⟩ => exact Fin.ext (by show 0 + 2 * C.val = 2 * C.val; omega))) he
  have io : Host.slice S1x2048x6144 ![0, 0, 1] ![1, 1, 2] (shapeCast S1x2048x12288 (codes x) shapeCasts_S1x2048x192x64_S1x2048x12288)
      slicesBy_S1x2048x12288_S1x2048x6144_0s1_0s1_1s2 (ix3 (0 : Fin 1) R C) = _ := Eq.trans (congrArg (shapeCast S1x2048x12288 (codes x) _) (funext fun d => by
    match d with
    | ⟨0, _⟩ => rfl
    | ⟨1, _⟩ => exact Fin.ext (by show 0 + 1 * R.val = R.val; omega)
    | ⟨2, _⟩ => exact Fin.ext (by show 1 + 2 * C.val = 2 * C.val + 1; omega))) ho
  rw [ie, io]
  exact pack_word ⟨_, count_lt _⟩ ⟨_, count_lt _⟩

/-- The packed bytes as an array. -/
theorem packed_eq (h : Cert.KernelIdeal.S2048x6144.ShapeCasts S1x2048x6144) : packed x = shapeCast S1x2048x6144 (codesArr x) h := by
  funext j
  obtain ⟨u, R, C, rfl⟩ : ∃ (u : Fin 1) (R : Fin 2048) (C : Fin 6144), j = ix3 u R C := ⟨_, _, _, eq_ix3 j⟩
  obtain rfl : u = 0 := Subsingleton.elim _ _
  refine (packed_apply x R C).trans (Eq.symm ((shapeCast_apply (codesArr x) h (ix3 (0 : Fin 1) R C) (ix2 R C) ?_).trans rfl))
  rw [Shape.rowMajor_val_three, Shape.rowMajor_val_two]
  show R.val * 6144 + C.val = (0 * 2048 + R.val) * 6144 + C.val
  omega

end Cert.ReferenceIdeal.Named

end
-- ==== Proof.Scales.lean ====
/- The reference's second step, read at an index: the mean of the largest magnitudes, the rows' scales, the quantized values. -/
module

public import proofs.«01_k».proof.Proof.Codes
public import proofs.«01_k».proof.Proof.Second

@[expose] public section

set_option maxRecDepth 16384

noncomputable section

namespace Cert.ReferenceIdeal.Named

open Idealize.ShloMosaic Idealize.ShloMosaic.TcCoe Idealize.SL.Sem Cert.ReferenceIdeal Cert.ReferenceIdeal.Gen
open Idealize.ShloMosaic.ValueIdx
open Cert.KernelIdeal.Chunk (peak peakArr peakRows)
open Cert.KernelIdeal.Second (meanOf scaleOf quantOf rowScale)

/-! ## Operations read at an index, at any shape -/

section
variable {s t u : Shape}

/-- The sum of all values, divided by a constant. -/
theorem mean_read {axes : List (Fin s.rank)} (v : FVec Ideal s .f32) (w : BitVec 32) (h : s.ReducesTo axes t) (hu : 0 < u.numel)
    (ht : ∀ b, t.size b = 1) (j : t.Idx) :
    Host.divf (Host.reduceAdd v (constant u .f32 0x00000000#32) h hu) (constant t .f32 w) j = Ideal.div (∑ i, v i) (Ideal.ofBits .f32 w) := by
  refine congrArg (Ideal.div · (Ideal.ofBits .f32 w)) ?_
  refine (Ideal.hostReduceAdd_total h ht v (Ideal.ofBits .f32 0x00000000#32) j).trans ?_
  rw [Ideal.ofBits_zero_f32, zero_add]

/-- An array less one value, reshaped. -/
theorem centred_read (v : FVec Ideal s .f32) (o : FVec Ideal u .f32) {dims : Fin u.rank → Fin s.rank} (hb : u.BroadcastsInDim s dims)
    (h : s.ShapeCasts t) (e : EReal) (ho : ∀ k, o k = e) (j : t.Idx) :
    shapeCast t (subf v (broadcastInDim s dims hb o)) h j = shapeCast t v h j - e := by
  refine congrArg (shapeCast t v h j - ·) ?_
  exact ho _

theorem scale_read (v z o w : FVec Ideal s .f32) (j : s.Idx) (hz : z j = Ideal.ofBits .f32 0x00000000#32)
    (ho : o j = Ideal.ofBits .f32 0x3F800000#32) (hw : w j = Ideal.ofBits .f32 0x42FE0000#32) :
    select (cmpf .oeq v z) o (Host.divf v w) j = scaleOf (v j) := by
  unfold scaleOf
  rw [← hz, ← ho, ← hw]
  rfl

theorem quant_read (v w a b : FVec Ideal s .f32) (h : 8 < 32) (j : s.Idx) (ha : a j = Ideal.ofBits .f32 0x42FE0000#32)
    (hb : b j = Ideal.ofBits .f32 0xC2FE0000#32) :
    trunci 8 (fptosi 32 (minimumf a (maximumf b (Host.roundeven (Host.divf v w))))) h j
      = (Ideal.fptosi 32 (quantOf (v j) (w j))).setWidth 8 := by
  unfold quantOf
  rw [← ha, ← hb]
  rfl

end

/-! ## The values -/

variable (x : FVec Ideal S1x2048x12288 .bf16)

/-- The reference forms the same rows of 256. -/
theorem absmax_rows : shapeCast S1536x256 (absmax x) shapeCasts_S1x2048x192_S1536x256 = peakRows x := by
  rw [absmax_eq x Cert.KernelIdeal.Gen.shapeCasts_S2048x192_S1x2048x192]
  exact shapeCast_trans _ _ _ _

/-- The mean is that of the rows of 256. -/
theorem offset_apply (j : S_.Idx) : offset x j = meanOf (peakRows x) := by
  unfold offset
  refine (mean_read (absmax x) 0x48C00000#32 _ _ (fun b => b.elim0) j).trans ?_
  unfold meanOf
  rw [← absmax_rows, Cert.KernelIdeal.Second.sum_shapeCast]

theorem centred_apply (j : S1536x256.Idx) : centred x j = peakRows x j - meanOf (peakRows x) := by
  unfold centred
  rw [centred_read _ _ _ _ _ (offset_apply x), absmax_rows]

theorem rowMax_apply (r : Fin 1536) :
    rowMax x (ix1 r) = peak fun c : Fin 256 => peakRows x (ix2 r c) - meanOf (peakRows x) := by
  have h : S1536x256.Reduces [1] S1536 := by decide
  refine (peak_read h (centred x) reducesTo_S1536x256_S1536_d1 h_S_ (ix1 r)).trans ?_
  refine congrArg peak (funext fun (c : Fin 256) => ?_)
  refine (congrArg (centred x) (funext fun d => ?_)).trans (centred_apply x (ix2 r c))
  match d with
  | ⟨0, _⟩ => rfl
  | ⟨1, _⟩ => rfl

/-- Each row's scale. -/
theorem scales_apply (r : Fin 1536) : scales x (ix1 r) = rowScale (peakRows x) r := by
  unfold scales rowScale
  rw [← rowMax_apply]
  exact scale_read _ _ _ _ _ (splat_read _ _ _) (splat_read _ _ _) (splat_read _ _ _)

/-- The quantized largest magnitudes. -/
theorem quants_apply (r : Fin 1536) (c : Fin 256) :
    quants x (ix2 r c) = Ideal.fptosi 8 (quantOf (peakRows x (ix2 r c) - meanOf (peakRows x)) (rowScale (peakRows x) r)) := by
  have e1 : broadcastInDim S1536x1 ![0] bcast_S1536_S1536x1_0 (scales x) (ix2 r (0 : Fin 1)) = scales x (ix1 r) :=
    broadcastInDim_apply _ _ _ _ (ix1 r) (fun a => by match a with
      | ⟨0, _⟩ => rfl)
  have e2 : broadcastInDim S1536x256 ![0, 1] bcast_S1536x1_S1536x256_0_1 (broadcastInDim S1536x1 ![0] bcast_S1536_S1536x1_0 (scales x)) (ix2 r c)
      = broadcastInDim S1536x1 ![0] bcast_S1536_S1536x1_0 (scales x) (ix2 r (0 : Fin 1)) :=
    broadcastInDim_apply _ _ _ _ (ix2 r (0 : Fin 1)) (fun a => by match a with
      | ⟨0, _⟩ => rfl
      | ⟨1, _⟩ => rfl)
  unfold quants
  rw [quant_read _ _ _ _ _ _ (splat_read _ _ _) (splat_read _ _ _), Cert.KernelIdeal.Second.quant_word, centred_apply, e2, e1, scales_apply]

end Cert.ReferenceIdeal.Named

end
-- ==== Proof.Equal.lean ====
/- The equation: each result of the kernel's run is the reference's. -/
module

public import proofs.«01_k».proof.Proof.Arrays
public import proofs.«01_k».proof.Proof.Scales

@[expose] public section

set_option maxRecDepth 16384

noncomputable section

namespace Cert.KernelIdeal.Equal

open Idealize.ShloMosaic Idealize.ShloMosaic.TcCoe Idealize.SL.Sem Cert.KernelIdeal Cert.KernelIdeal.Gen
open Idealize.ShloMosaic.ValueIdx
open Cert.KernelIdeal.Chunk (peakRows)
open Cert.KernelIdeal.Arrays
open Cert.ReferenceIdeal.Named (packed absmax quants scales offset)

variable (m : (ℓ : Loc nD τ sig) → Buf (Elt Ideal) ℓ) (ρ : Dev nD → PrngReg)

/-- The packed codes. -/
theorem codes (c : Dev nD) : W5 m ρ c (main_v7 : DevRef τ sig) = packed (F := Ideal) (m ((c : Thread nD τ).loc main_arg0)) :=
  (end_codes m ρ c).trans (Cert.ReferenceIdeal.Named.packed_eq _ _).symm

/-- The largest magnitudes. -/
theorem maxima (c : Dev nD) : W5 m ρ c (main_v8 : DevRef τ sig) = absmax (F := Ideal) (m ((c : Thread nD τ).loc main_arg0)) :=
  (end_peak m ρ c).trans (Cert.ReferenceIdeal.Named.absmax_eq _ _).symm

section
variable (x : FVec Ideal S1x2048x12288 .bf16)

theorem quants_eq : k1_pay5 (F := Ideal) (peakRows x) = quants (F := Ideal) x := by
  funext j
  obtain ⟨r, k, rfl⟩ : ∃ (r : Fin 1536) (k : Fin 256), j = ix2 r k := ⟨_, _, eq_ix2 j⟩
  exact (Second.quant_apply (peakRows x) r k).trans (Cert.ReferenceIdeal.Named.quants_apply x r k).symm

theorem scales_eq : shapeCast S1536 (k1_pay4 (F := Ideal) (peakRows x)) shapeCasts_S1536x1_S1536 = scales (F := Ideal) x := by
  funext j
  obtain ⟨r, rfl⟩ : ∃ r : Fin 1536, j = ix1 r := ⟨_, eq_ix1 j⟩
  refine (shapeCast_apply (k1_pay4 (F := Ideal) (peakRows x)) shapeCasts_S1536x1_S1536 (ix1 r) (ix2 r (0 : Fin 1)) ?_).trans
    ((Second.scale_apply (peakRows x) r 0).trans (Cert.ReferenceIdeal.Named.scales_apply x r).symm)
  rw [Shape.rowMajor_val_two, Shape.rowMajor_val_one]
  show r.val * 1 + 0 = r.val
  omega

theorem mean_eq : shapeCast S_ (k1_pay2 (F := Ideal) (peakRows x)) shapeCasts_S1x1_S_ = offset (F := Ideal) x := by
  funext j
  exact (Second.mean_apply (peakRows x) _).trans (Cert.ReferenceIdeal.Named.offset_apply x j).symm

end

/-- The quantized largest magnitudes. -/
theorem quantized (c : Dev nD) : W5 m ρ c (main_v6_0 : DevRef τ sig) = quants (F := Ideal) (m ((c : Thread nD τ).loc main_arg0)) :=
  (end_quants m ρ c).trans (quants_eq _)

/-- Their rows' scales. -/
theorem rowScales (c : Dev nD) : W5 m ρ c (main_v9 : DevRef τ sig) = scales (F := Ideal) (m ((c : Thread nD τ).loc main_arg0)) :=
  (end_scales m ρ c).trans (scales_eq _)

/-- Their mean. -/
theorem mean (c : Dev nD) : W5 m ρ c (main_v10 : DevRef τ sig) = offset (F := Ideal) (m ((c : Thread nD τ).loc main_arg0)) :=
  (end_mean m ρ c).trans (mean_eq _)

end Cert.KernelIdeal.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ends
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel, with words for floats: every run ends, its argument unchanged, every semaphore counter at zero. -/
theorem frame_p : Cert.quiescent_Kernel := fun m ρ _ => Cert.Kernel.Gen.frame m ρ

/-- The same with exact floats. -/
theorem frame_pi : Cert.quiescent_KernelIdeal := fun m ρ _ => Cert.KernelIdeal.Gen.frame m ρ

/-- The same of the reference, with exact floats. -/
theorem frame_ri : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- Nothing was rewritten between the kernel's two readings. -/
theorem preserves : Cert.preserves_Kernel_KernelIdeal := trivial

/-- With exact floats, from equal arguments, the kernel and the reference end with the same five results. -/
theorem algebraic : Cert.algebraic_KernelIdeal_ReferenceIdeal := fun m ρ m' ρ' _ hag =>
  ⟨fun c => Cert.ReferenceIdeal.Named.packed (F := Ideal) (m ((c.tc : Thread Cert.KernelIdeal.nD Cert.KernelIdeal.τ).loc Cert.KernelIdeal.main_arg0)),
    fun c => Cert.ReferenceIdeal.Named.absmax (F := Ideal) (m ((c.tc : Thread Cert.KernelIdeal.nD Cert.KernelIdeal.τ).loc Cert.KernelIdeal.main_arg0)),
    fun c => Cert.ReferenceIdeal.Named.quants (F := Ideal) (m ((c.tc : Thread Cert.KernelIdeal.nD Cert.KernelIdeal.τ).loc Cert.KernelIdeal.main_arg0)),
    fun c => Cert.ReferenceIdeal.Named.scales (F := Ideal) (m ((c.tc : Thread Cert.KernelIdeal.nD Cert.KernelIdeal.τ).loc Cert.KernelIdeal.main_arg0)),
    fun c => Cert.ReferenceIdeal.Named.offset (F := Ideal) (m ((c.tc : Thread Cert.KernelIdeal.nD Cert.KernelIdeal.τ).loc Cert.KernelIdeal.main_arg0)),
    (θ_run _ _ _).mono (fun _ h c => by
      obtain ⟨h0, h1, h2, h3, h4, h5⟩ := h c
      exact ⟨h0.trans (Cert.KernelIdeal.Equal.codes m ρ c), h1.trans (Cert.KernelIdeal.Equal.maxima m ρ c),
        h2.trans (Cert.KernelIdeal.Equal.quantized m ρ c), h3.trans (Cert.KernelIdeal.Equal.rowScales m ρ c),
        h4.trans (Cert.KernelIdeal.Equal.mean m ρ c), h5⟩) (Cert.KernelIdeal.Ends.run_values (F := Ideal) m ρ),
    (θ_run _ _ _).mono (fun _ h c => by
      obtain ⟨h0, h1, h2, h3, h4, h5⟩ := h c
      rw [hag c] at h0 h1 h2 h3 h4
      exact ⟨h0, h1, h2, h3, h4, h5⟩) (Cert.ReferenceIdeal.Named.run_named (F := Ideal) m' ρ')⟩

/-- The five claims. -/
theorem claim : Cert.Claim := ⟨Cert.Kernel.Gen.facts, Cert.KernelIdeal.Gen.facts, Cert.ReferenceIdeal.Gen.facts,
  frame_p, frame_pi, frame_ri, preserves, algebraic⟩

end Cert.Proof

end
